-- ==== Defs.lean ====
def Pre_Kernel (m : (ℓ : Loc Cert.Kernel.nD Cert.Kernel.τ Cert.Kernel.sig) → Buf (Elt Bits) ℓ) : Prop :=
  True

def Pre_Kernel_general_position [hPre_general_position : Cert.Pre_general_position.Facts] (m : (ℓ : Loc Cert.Kernel.nD Cert.Kernel.τ Cert.Kernel.sig) → Buf (Elt Bits) ℓ) : Prop :=
  ∀ c : Dev Cert.Kernel.nD,
    (Cert.Pre_general_position.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_general_position : Cert.Pre_general_position.Facts] (m : (ℓ : Loc Cert.KernelIdeal.nD Cert.KernelIdeal.τ Cert.KernelIdeal.sig) → Buf (Elt Ideal) ℓ) : Prop :=
  ∀ c : Dev Cert.KernelIdeal.nD,
    (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_general_position [hPre_general_position : Cert.Pre_general_position.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Kernel_pre_general_position [hKernel : Cert.Kernel.Facts] [hPre_general_position : Cert.Pre_general_position.Facts] : Prop :=
  ∀ (m : (ℓ : Loc Cert.Kernel.nD Cert.Kernel.τ Cert.Kernel.sig) → Buf (Elt Bits) ℓ) (g : Dev Cert.Kernel.nD → PrngReg), Pre_Kernel_general_position m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_general_position [hReferenceIdeal : Cert.ReferenceIdeal.Facts] [hPre_general_position : Cert.Pre_general_position.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_general_position m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_general_position : Cert.Pre_general_position.Facts),
    quiescent_Kernel (hKernel := hKernel)
    ∧ quiescent_Kernel_pre_general_position (hKernel := hKernel) (hPre_general_position := hPre_general_position)
    ∧ quiescent_KernelIdeal (hKernelIdeal := hKernelIdeal) (hPre_general_position := hPre_general_position)
    ∧ quiescent_ReferenceIdeal (hReferenceIdeal := hReferenceIdeal)
    ∧ quiescent_ReferenceIdeal_pre_general_position (hReferenceIdeal := hReferenceIdeal) (hPre_general_position := hPre_general_position)
    ∧ preserves_Kernel_KernelIdeal
    ∧ algebraic_KernelIdeal_ReferenceIdeal (hKernelIdeal := hKernelIdeal) (hReferenceIdeal := hReferenceIdeal) (hPre_general_position := hPre_general_position)
-- ==== Pre_general_position.lean ====
abbrev S8x2048x3 : Shape := ⟨3, ![8, 2048, 3]⟩
abbrev S8 : Shape := ⟨1, ![8]⟩
abbrev S3x128 : Shape := ⟨2, ![3, 128]⟩
abbrev S128 : Shape := ⟨1, ![128]⟩
abbrev S128x256 : Shape := ⟨2, ![128, 256]⟩
abbrev S256 : Shape := ⟨1, ![256]⟩
abbrev S512x512 : Shape := ⟨2, ![512, 512]⟩
abbrev S512 : Shape := ⟨1, ![512]⟩
abbrev S512x384 : Shape := ⟨2, ![512, 384]⟩
abbrev S384 : Shape := ⟨1, ![384]⟩
abbrev S_ : Shape := ⟨0, ![]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S8x2048x2048 : Shape := ⟨3, ![8, 2048, 2048]⟩
abbrev S8x1x1 : Shape := ⟨3, ![8, 1, 1]⟩
abbrev S8x4194304 : Shape := ⟨2, ![8, 4194304]⟩
abbrev S8x4194303 : Shape := ⟨2, ![8, 4194303]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8 : S_.BroadcastsInDim S8 (![] : Fin 0 → Fin S8.rank)
  reducesTo_S8_S_d0 : S8.ReducesTo [0] S_
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  bcast_S8_S8x1x1_0 : S8.BroadcastsInDim S8x1x1 (![0] : Fin 1 → Fin S8x1x1.rank)
  bcast_S8x1x1_S8x2048x2048_0_1_2 : S8x1x1.BroadcastsInDim S8x2048x2048 (![0, 1, 2] : Fin 3 → Fin S8x2048x2048.rank)
  bcast_S_S8x2048x2048 : S_.BroadcastsInDim S8x2048x2048 (![] : Fin 0 → Fin S8x2048x2048.rank)
  shapeCasts_S8x2048x2048_S8x4194304 : S8x2048x2048.ShapeCasts S8x4194304
  slices_S8x4194304_S8x4194303_0_1 : S8x4194304.Slices ![0, 1] S8x4194303
  slices_S8x4194304_S8x4194303_0_0 : S8x4194304.Slices ![0, 0] S8x4194303
  reducesTo_S8x4194303_S_d0_1 : S8x4194303.ReducesTo [0, 1] S_

variable [Facts]

variable {F : FTy → Type} [FloatOps F]
def comparator_f32_d1 : F .f32 → F .f32 → BitVec 1 :=
  fun l r =>
    let cst_7 := FloatOps.ofBits .f32 0x00000000#32
    let v39 := FloatOps.cmpf .oeq l cst_7
    let cst_8 := FloatOps.ofBits .f32 0x00000000#32
    let v40 := Scalar.select v39 cst_8 l
    let v41 := FloatOps.cmpf .une l l
    let cst_9 := FloatOps.ofBits .f32 0x7FC00000#32
    let v42 := Scalar.select v41 cst_9 v40
    let cst_10 := FloatOps.ofBits .f32 0x00000000#32
    let v43 := FloatOps.cmpf .oeq r cst_10
    let cst_11 := FloatOps.ofBits .f32 0x00000000#32
    let v44 := Scalar.select v43 cst_11 r
    let v45 := FloatOps.cmpf .une r r
    let cst_12 := FloatOps.ofBits .f32 0x7FC00000#32
    let v46 := Scalar.select v45 cst_12 v44
    let v47 := FloatOps.cmpfTotal .lt v42 v46
    v47

def fn_part1 {F : FTy → Type} [FloatOps F] (main_arg1 : IVec S8 32) (main_v3 : IVec S_ 1) (main_v10 : IVec S_ 1) (main_v16 : FVec F S8x2048x2048x3 .f32) (main_cst_4 : FVec F S_ .f32) : IVec S_ 1 :=
  let main_v17 : FVec F S8x2048x2048 .f32 := (fun x v => Host.reduceAdd x v reducesTo_S8x2048x2048x3_S8x2048x2048_d3 h_S_) main_v16 main_cst_4
  let main_v18 : IVec S8x2048x2048 32 := iotaInDim S8x2048x2048 32 1
  let main_v19 : IVec S8x2048x2048 32 := iotaInDim S8x2048x2048 32 2
  let main_v20 : IVec S8x2048x2048 1 := cmpi .slt main_v18 main_v19
  let main_v21 : IVec S8x1x1 32 := broadcastInDim S8x1x1 ![0] bcast_S8_S8x1x1_0 main_arg1
  let main_v22 : IVec S8x2048x2048 32 := broadcastInDim S8x2048x2048 ![0, 1, 2] bcast_S8x1x1_S8x2048x2048_0_1_2 main_v21
  let main_v23 : IVec S8x2048x2048 1 := cmpi .slt main_v19 main_v22
  let main_v24 : IVec S8x2048x2048 1 := andi main_v20 main_v23
  let main_c_5 : IVec S_ 32 := constantI S_ 32 2048#32
  let main_v25 : IVec S8x2048x2048 32 := broadcastInDim S8x2048x2048 ![] bcast_S_S8x2048x2048 main_c_5
  let main_v26 : IVec S8x2048x2048 32 := muli main_v18 main_v25
  let main_v27 : IVec S8x2048x2048 32 := addi main_v26 main_v19
  let main_v28 : FVec F S8x2048x2048 .f32 := sitofp .f32 main_v27
  let main_v29 : FVec F S8x2048x2048 .f32 := Host.negf main_v28
  let main_v30 : FVec F S8x2048x2048 .f32 := select main_v24 main_v17 main_v29
  let main_v31 : FVec F S8x4194304 .f32 := shapeCast S8x4194304 main_v30 shapeCasts_S8x2048x2048_S8x4194304
  let main_v32 : FVec F S8x4194304 .f32 := (fun x => Host.sort S8x4194304 1 comparator_f32_d1 x) main_v31
  let main_v33 : IVec S_ 1 := andi main_v3 main_v10
  let main_v34 : FVec F S8x4194303 .f32 := (extractStridedSlice S8x4194303 ![0, 1] · slices_S8x4194304_S8x4194303_0_1) main_v32
  let main_v35 : FVec F S8x4194303 .f32 := (extractStridedSlice S8x4194303 ![0, 0] · slices_S8x4194304_S8x4194303_0_0) main_v32
  let main_v36 : IVec S8x4194303 1 := cmpf .ogt main_v34 main_v35
  let main_c_6 : IVec S_ 1 := constantI S_ 1 1#1
  let main_v37 : IVec S_ 1 := (fun x v => Host.reduce IntOp.andi x v reducesTo_S8x4194303_S_d0_1 h_S_) main_v36 main_c_6
  let main_v38 : IVec S_ 1 := andi main_v33 main_v37
  main_v38

def fn {F : FTy → Type} [FloatOps F] (main_arg0 : FVec F S8x2048x3 .f32) (main_arg1 : IVec S8 32) (main_arg2 : FVec F S3x128 .f32) (main_arg3 : FVec F S128 .f32) (main_arg4 : FVec F S128x256 .f32) (main_arg5 : FVec F S256 .f32) (main_arg6 : FVec F S512x512 .f32) (main_arg7 : FVec F S512 .f32) (main_arg8 : FVec F S512x384 .f32) (main_arg9 : FVec F S384 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_c_0 : IVec S_ 32 := constantI S_ 32 512#32
  let main_v4 : IVec S8 32 := broadcastInDim S8 ![] bcast_S_S8 main_c_0
  let main_v5 : IVec S8 1 := cmpi .sge main_arg1 main_v4
  let main_c_1 : IVec S_ 1 := constantI S_ 1 1#1
  let main_v6 : IVec S_ 1 := (fun x v => Host.reduce IntOp.andi x v reducesTo_S8_S_d0 h_S_) main_v5 main_c_1
  let main_c_2 : IVec S_ 32 := constantI S_ 32 2047#32
  let main_v7 : IVec S8 32 := broadcastInDim S8 ![] bcast_S_S8 main_c_2
  let main_v8 : IVec S8 1 := cmpi .sle main_arg1 main_v7
  let main_c_3 : IVec S_ 1 := constantI S_ 1 1#1
  let main_v9 : IVec S_ 1 := (fun x v => Host.reduce IntOp.andi x v reducesTo_S8_S_d0 h_S_) main_v8 main_c_3
  let main_v10 : IVec S_ 1 := andi main_v6 main_v9
  let main_v11 : FVec F S8x2048x1x3 .f32 := broadcastInDim S8x2048x1x3 ![0, 1, 3] bcast_S8x2048x3_S8x2048x1x3_0_1_3 main_arg0
  let main_v12 : FVec F S8x1x2048x3 .f32 := broadcastInDim S8x1x2048x3 ![0, 2, 3] bcast_S8x2048x3_S8x1x2048x3_0_2_3 main_arg0
  let main_v13 : FVec F S8x2048x2048x3 .f32 := broadcastInDim S8x2048x2048x3 ![0, 1, 2, 3] bcast_S8x2048x1x3_S8x2048x2048x3_0_1_2_3 main_v11
  let main_v14 : FVec F S8x2048x2048x3 .f32 := broadcastInDim S8x2048x2048x3 ![0, 1, 2, 3] bcast_S8x1x2048x3_S8x2048x2048x3_0_1_2_3 main_v12
  let main_v15 : FVec F S8x2048x2048x3 .f32 := subf main_v13 main_v14
  let main_v16 : FVec F S8x2048x2048x3 .f32 := mulf main_v15 main_v15
  let main_cst_4 : FVec F S_ .f32 := constant S_ .f32 0x00000000#32
  fn_part1 (F := F) main_arg1 main_v3 main_v10 main_v16 main_cst_4
-- ==== Kernel.lean ====
abbrev S8x2048x3 : Shape := ⟨3, ![8, 2048, 3]⟩
abbrev S8 : Shape := ⟨1, ![8]⟩
abbrev S3x128 : Shape := ⟨2, ![3, 128]⟩
abbrev S128 : Shape := ⟨1, ![128]⟩
abbrev S128x256 : Shape := ⟨2, ![128, 256]⟩
abbrev S256 : Shape := ⟨1, ![256]⟩
abbrev S512x512 : Shape := ⟨2, ![512, 512]⟩
abbrev S512 : Shape := ⟨1, ![512]⟩
abbrev S512x384 : Shape := ⟨2, ![512, 384]⟩
abbrev S384 : Shape := ⟨1, ![384]⟩
abbrev S8x128 : Shape := ⟨2, ![8, 128]⟩
abbrev S8x52 : Shape := ⟨2, ![8, 52]⟩
abbrev S8x52x1 : Shape := ⟨3, ![8, 52, 1]⟩
abbrev S1x1x128 : Shape := ⟨3, ![1, 1, 128]⟩
abbrev S8x52x128 : Shape := ⟨3, ![8, 52, 128]⟩
abbrev S8x3x2048 : Shape := ⟨3, ![8, 3, 2048]⟩
abbrev S8x1x1 : Shape := ⟨3, ![8, 1, 1]⟩
abbrev S8x3x128 : Shape := ⟨3, ![8, 3, 128]⟩
abbrev S8x1x2048 : Shape := ⟨3, ![8, 1, 2048]⟩
abbrev S8x2048 : Shape := ⟨2, ![8, 2048]⟩
abbrev S8x1 : Shape := ⟨2, ![8, 1]⟩
abbrev S8x1x128 : Shape := ⟨3, ![8, 1, 128]⟩
abbrev S8x52x32x3 : Shape := ⟨4, ![8, 52, 32, 3]⟩
abbrev S8x52x2048 : Shape := ⟨3, ![8, 52, 2048]⟩
abbrev S8x52x3 : Shape := ⟨3, ![8, 52, 3]⟩
abbrev S8x52x1x3 : Shape := ⟨4, ![8, 52, 1, 3]⟩
abbrev S416x32x3 : Shape := ⟨3, ![416, 32, 3]⟩
abbrev S1x128 : Shape := ⟨2, ![1, 128]⟩
abbrev S1x256 : Shape := ⟨2, ![1, 256]⟩
abbrev S256x512 : Shape := ⟨2, ![256, 512]⟩
abbrev S1x512 : Shape := ⟨2, ![1, 512]⟩
abbrev S1x384 : Shape := ⟨2, ![1, 384]⟩
abbrev S416x384 : Shape := ⟨2, ![416, 384]⟩
abbrev S32x32x3 : Shape := ⟨3, ![32, 32, 3]⟩
abbrev S32x384 : Shape := ⟨2, ![32, 384]⟩
abbrev S1024x3 : Shape := ⟨2, ![1024, 3]⟩
abbrev S1024x128 : Shape := ⟨2, ![1024, 128]⟩
abbrev S1024x256 : Shape := ⟨2, ![1024, 256]⟩
abbrev S32x32x256 : Shape := ⟨3, ![32, 32, 256]⟩
abbrev S32x256 : Shape := ⟨2, ![32, 256]⟩
abbrev S1024x512 : Shape := ⟨2, ![1024, 512]⟩
abbrev S32x512 : Shape := ⟨2, ![32, 512]⟩
abbrev S32x32x512 : Shape := ⟨3, ![32, 32, 512]⟩
abbrev S32x1x512 : Shape := ⟨3, ![32, 1, 512]⟩
abbrev S1024x384 : Shape := ⟨2, ![1024, 384]⟩
abbrev S32x32x384 : Shape := ⟨3, ![32, 32, 384]⟩
abbrev S8x52x384 : Shape := ⟨3, ![8, 52, 384]⟩

abbrev nBuf : Space → Nat
  | .hbm => 31
  | .vmem => 21
  | .smem => 0
  | _ => 0

abbrev bufTy : (tb : Table) → Fin (tcTables nBuf tb) → BufTy
  | .hbm, ⟨0, _⟩ => ⟨S8x2048x3, .f32⟩
  | .hbm, ⟨1, _⟩ => ⟨S8, .i32⟩
  | .hbm, ⟨2, _⟩ => ⟨S3x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S512x512, .f32⟩
  | .hbm, ⟨7, _⟩ => ⟨S512, .f32⟩
  | .hbm, ⟨8, _⟩ => ⟨S512x384, .f32⟩
  | .hbm, ⟨9, _⟩ => ⟨S384, .f32⟩
  | .hbm, ⟨10, _⟩ => ⟨S8x128, .i32⟩
  | .hbm, ⟨11, _⟩ => ⟨S8x52, .i32⟩
  | .hbm, ⟨12, _⟩ => ⟨S8x52x1, .i32⟩
  | .hbm, ⟨13, _⟩ => ⟨S1x1x128, .i32⟩
  | .hbm, ⟨14, _⟩ => ⟨S8x52x128, .i32⟩
  | .hbm, ⟨15, _⟩ => ⟨S8x52x128, .i32⟩
  | .hbm, ⟨16, _⟩ => ⟨S8x52x128, .i1⟩
  | .hbm, ⟨17, _⟩ => ⟨S8x52x128, .f32⟩
  | .hbm, ⟨18, _⟩ => ⟨S8x3x2048, .f32⟩
  | .hbm, ⟨19, _⟩ => ⟨S8x1x1, .i32⟩
  | .hbm, ⟨20, _⟩ => ⟨S8x3x128, .f32⟩
  | .hbm, ⟨21, _⟩ => ⟨S8x52x32x3, .f32⟩
  | .hbm, ⟨22, _⟩ => ⟨S416x32x3, .f32⟩
  | .hbm, ⟨23, _⟩ => ⟨S1x128, .f32⟩
  | .hbm, ⟨24, _⟩ => ⟨S1x256, .f32⟩
  | .hbm, ⟨25, _⟩ => ⟨S256x512, .f32⟩
  | .hbm, ⟨26, _⟩ => ⟨S256x512, .f32⟩
  | .hbm, ⟨27, _⟩ => ⟨S1x512, .f32⟩
  | .hbm, ⟨28, _⟩ => ⟨S1x384, .f32⟩
  | .hbm, ⟨29, _⟩ => ⟨S416x384, .f32⟩
  | .hbm, ⟨30, _⟩ => ⟨S8x52x384, .f32⟩
  | .local _ .vmem, ⟨0, _⟩ => ⟨S8x3x2048, .f32⟩
  | .local _ .vmem, ⟨1, _⟩ => ⟨S8x1x1, .i32⟩
  | .local _ .vmem, ⟨2, _⟩ => ⟨S8x3x128, .f32⟩
  | .local _ .vmem, ⟨3, _⟩ => ⟨S8x3x2048, .f32⟩
  | .local _ .vmem, ⟨4, _⟩ => ⟨S8x3x128, .f32⟩
  | .local _ .vmem, ⟨5, _⟩ => ⟨S8x52x128, .f32⟩
  | .local _ .vmem, ⟨6, _⟩ => ⟨S8x1x1, .i32⟩
  | .local _ .vmem, ⟨7, _⟩ => ⟨S8x52x32x3, .f32⟩
  | .local _ .vmem, ⟨8, _⟩ => ⟨S32x32x3, .f32⟩
  | .local _ .vmem, ⟨9, _⟩ => ⟨S32x32x3, .f32⟩
  | .local _ .vmem, ⟨10, _⟩ => ⟨S3x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S256x512, .f32⟩
  | .local _ .vmem, ⟨15, _⟩ => ⟨S256x512, .f32⟩
  | .local _ .vmem, ⟨16, _⟩ => ⟨S1x512, .f32⟩
  | .local _ .vmem, ⟨17, _⟩ => ⟨S512x384, .f32⟩
  | .local _ .vmem, ⟨18, _⟩ => ⟨S1x384, .f32⟩
  | .local _ .vmem, ⟨19, _⟩ => ⟨S32x384, .f32⟩
  | .local _ .vmem, ⟨20, _⟩ => ⟨S32x384, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg10_0 : Ref sig .tc := ⟨.vmem, 19, rfl⟩
abbrev cc2_stg10_1 : Ref sig .tc := ⟨.vmem, 20, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem8_0 : DmaSem sig := 17
abbrev cc2_sem9_0 : DmaSem sig := 18
abbrev cc2_sem10_0 : DmaSem sig := 19
abbrev cc2_sem10_1 : DmaSem sig := 20

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c127_i32 : BitVec 32 := 127#32
  let v17 : BitVec 32 := Scalar.addi c1_i32 c127_i32
  let c1_i32_11 : BitVec 32 := 1#32
  ⟨c1_i32, v17, c1_i32_11⟩
abbrev stage0_0 : Fin 1 → Memref sig .tc .vmem S8x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S8x3x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x3x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x52x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x1x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x52x32x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![13], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x32x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S512x384 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x384 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S32x384 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== ReferenceIdeal.lean ====
abbrev S8x2048x3 : Shape := ⟨3, ![8, 2048, 3]⟩
abbrev S8 : Shape := ⟨1, ![8]⟩
abbrev S3x128 : Shape := ⟨2, ![3, 128]⟩
abbrev S128 : Shape := ⟨1, ![128]⟩
abbrev S128x256 : Shape := ⟨2, ![128, 256]⟩
abbrev S256 : Shape := ⟨1, ![256]⟩
abbrev S512x512 : Shape := ⟨2, ![512, 512]⟩
abbrev S512 : Shape := ⟨1, ![512]⟩
abbrev S512x384 : Shape := ⟨2, ![512, 384]⟩
abbrev S384 : Shape := ⟨1, ![384]⟩
abbrev S8x52 : Shape := ⟨2, ![8, 52]⟩
abbrev S2048 : Shape := ⟨1, ![2048]⟩
abbrev S1x2048 : Shape := ⟨2, ![1, 2048]⟩
abbrev S8x1 : Shape := ⟨2, ![8, 1]⟩
abbrev S8x2048 : Shape := ⟨2, ![8, 2048]⟩
abbrev S_ : Shape := ⟨0, ![]⟩
abbrev S8x128 : Shape := ⟨2, ![8, 128]⟩
abbrev S8x1x1 : Shape := ⟨3, ![8, 1, 1]⟩
abbrev S8x1x3 : Shape := ⟨3, ![8, 1, 3]⟩
abbrev S8x128x1 : Shape := ⟨3, ![8, 128, 1]⟩
abbrev S8x128x3 : Shape := ⟨3, ![8, 128, 3]⟩
abbrev S8x1x2048x3 : Shape := ⟨4, ![8, 1, 2048, 3]⟩
abbrev S8x128x1x3 : Shape := ⟨4, ![8, 128, 1, 3]⟩
abbrev S8x128x2048x3 : Shape := ⟨4, ![8, 128, 2048, 3]⟩
abbrev S8x128x2048 : Shape := ⟨3, ![8, 128, 2048]⟩
abbrev S8x1x2048 : Shape := ⟨3, ![8, 1, 2048]⟩
abbrev S8x128x32 : Shape := ⟨3, ![8, 128, 32]⟩
abbrev S8x128x32x1 : Shape := ⟨4, ![8, 128, 32, 1]⟩
abbrev S8x128x32x3 : Shape := ⟨4, ![8, 128, 32, 3]⟩
abbrev S8x52x1 : Shape := ⟨3, ![8, 52, 1]⟩
abbrev S8x52x32x3 : Shape := ⟨4, ![8, 52, 32, 3]⟩
abbrev S416x32x3 : Shape := ⟨3, ![416, 32, 3]⟩
abbrev S8x52x32 : Shape := ⟨3, ![8, 52, 32]⟩
abbrev S416x32 : Shape := ⟨2, ![416, 32]⟩
abbrev S416x32x128 : Shape := ⟨3, ![416, 32, 128]⟩
abbrev S1x1x128 : Shape := ⟨3, ![1, 1, 128]⟩
abbrev S416x32x256 : Shape := ⟨3, ![416, 32, 256]⟩
abbrev S1x1x256 : Shape := ⟨3, ![1, 1, 256]⟩
abbrev S416x32x1 : Shape := ⟨3, ![416, 32, 1]⟩
abbrev S416x256 : Shape := ⟨2, ![416, 256]⟩
abbrev S416x1x256 : Shape := ⟨3, ![416, 1, 256]⟩
abbrev S416x32x512 : Shape := ⟨3, ![416, 32, 512]⟩
abbrev S1x1x512 : Shape := ⟨3, ![1, 1, 512]⟩
abbrev S416x32x384 : Shape := ⟨3, ![416, 32, 384]⟩
abbrev S1x1x384 : Shape := ⟨3, ![1, 1, 384]⟩
abbrev S416x384 : Shape := ⟨2, ![416, 384]⟩
abbrev S8x52x384 : Shape := ⟨3, ![8, 52, 384]⟩

abbrev nBuf : Space → Nat
  | .hbm => 177
  | .vmem => 0
  | .smem => 0
  | _ => 0

abbrev hbmTy0_0 (i : Nat) : BufTy := match i % 128 with
  | 0 => ⟨S8x2048x3, .f32⟩
  | 1 => ⟨S8, .i32⟩
  | 2 => ⟨S3x128, .f32⟩
  | 3 => ⟨S128, .f32⟩
  | 4 => ⟨S128x256, .f32⟩
  | 5 => ⟨S256, .f32⟩
  | 6 => ⟨S512x512, .f32⟩
  | 7 => ⟨S512, .f32⟩
  | 8 => ⟨S512x384, .f32⟩
  | 9 => ⟨S384, .f32⟩
  | 10 => ⟨S8x52, .i32⟩
  | 11 => ⟨S2048, .i32⟩
  | 12 => ⟨S1x2048, .i32⟩
  | 13 => ⟨S8x1, .i32⟩
  | 14 => ⟨S8x2048, .i32⟩
  | 15 => ⟨S8x2048, .i32⟩
  | 16 => ⟨S8x2048, .i1⟩
  | 17 => ⟨S_, .f32⟩
  | 18 => ⟨S8x2048, .f32⟩
  | 19 => ⟨S8x2048, .f32⟩
  | 20 => ⟨S8x2048, .f32⟩
  | 21 => ⟨S_, .i32⟩
  | 22 => ⟨S8x128, .i32⟩
  | 23 => ⟨S_, .i32⟩
  | 24 => ⟨S8, .i32⟩
  | 25 => ⟨S_, .i32⟩
  | 26 => ⟨S_, .i32⟩
  | 27 => ⟨S8x2048x3, .f32⟩
  | 28 => ⟨S8x2048, .f32⟩
  | 29 => ⟨S8x2048, .i1⟩
  | 30 => ⟨S_, .i32⟩
  | 31 => ⟨S_, .i32⟩
  | 32 => ⟨S8x2048, .f32⟩
  | 33 => ⟨S8x128, .i32⟩
  | 34 => ⟨S8, .i32⟩
  | 35 => ⟨S_, .i32⟩
  | 36 => ⟨S_, .i1⟩
  | 37 => ⟨S_, .i32⟩
  | 38 => ⟨S_, .i32⟩
  | 39 => ⟨S8x1, .i32⟩
  | 40 => ⟨S_, .i32⟩
  | 41 => ⟨S8x1, .i32⟩
  | 42 => ⟨S8x1, .i1⟩
  | 43 => ⟨S_, .i32⟩
  | 44 => ⟨S8x1, .i32⟩
  | 45 => ⟨S8x1, .i32⟩
  | 46 => ⟨S8x1, .i32⟩
  | 47 => ⟨S8x1x1, .i32⟩
  | 48 => ⟨S8x1x3, .f32⟩
  | 49 => ⟨S8x2048x3, .f32⟩
  | 50 => ⟨S8x2048x3, .f32⟩
  | 51 => ⟨S8x2048x3, .f32⟩
  | 52 => ⟨S_, .f32⟩
  | 53 => ⟨S8x2048, .f32⟩
  | 54 => ⟨S8x2048, .f32⟩
  | 55 => ⟨S8x2048, .f32⟩
  | 56 => ⟨S8x2048, .f32⟩
  | 57 => ⟨S8x2048, .i32⟩
  | 58 => ⟨S_, .f32⟩
  | 59 => ⟨S_, .i32⟩
  | 60 => ⟨S8, .f32⟩
  | 61 => ⟨S8, .i32⟩
  | 62 => ⟨S8x128, .i32⟩
  | 63 => ⟨S_, .i32⟩
  | 64 => ⟨S8x128, .i32⟩
  | 65 => ⟨S8x128, .i1⟩
  | 66 => ⟨S8x1, .i32⟩
  | 67 => ⟨S8x128, .i32⟩
  | 68 => ⟨S8x128, .i32⟩
  | 69 => ⟨S_, .i32⟩
  | 70 => ⟨S_, .i32⟩
  | 71 => ⟨S_, .i32⟩
  | 72 => ⟨S8x128, .i32⟩
  | 73 => ⟨S8x128, .i1⟩
  | 74 => ⟨S_, .i32⟩
  | 75 => ⟨S8x128, .i32⟩
  | 76 => ⟨S8x128, .i32⟩
  | 77 => ⟨S8x128, .i32⟩
  | 78 => ⟨S8x128x1, .i32⟩
  | 79 => ⟨S8x128x3, .f32⟩
  | 80 => ⟨S8x1x2048x3, .f32⟩
  | 81 => ⟨S8x128x1x3, .f32⟩
  | 82 => ⟨S8x128x2048x3, .f32⟩
  | 83 => ⟨S8x128x2048x3, .f32⟩
  | 84 => ⟨S8x128x2048x3, .f32⟩
  | 85 => ⟨S8x128x2048x3, .f32⟩
  | 86 => ⟨S_, .f32⟩
  | 87 => ⟨S8x128x2048, .f32⟩
  | 88 => ⟨S8x1x2048, .i1⟩
  | 89 => ⟨S8x128x2048, .i1⟩
  | 90 => ⟨S_, .f32⟩
  | 91 => ⟨S8x128x2048, .f32⟩
  | 92 => ⟨S8x128x2048, .f32⟩
  | 93 => ⟨S8x128x2048, .f32⟩
  | 94 => ⟨S8x128x32, .f32⟩
  | 95 => ⟨S8x128x32, .i32⟩
  | 96 => ⟨S_, .i32⟩
  | 97 => ⟨S8x128x32, .i32⟩
  | 98 => ⟨S8x128x32, .i1⟩
  | 99 => ⟨S_, .i32⟩
  | 100 => ⟨S8x128x32, .i32⟩
  | 101 => ⟨S8x128x32, .i32⟩
  | 102 => ⟨S8x128x32, .i32⟩
  | 103 => ⟨S8x128x32x1, .i32⟩
  | 104 => ⟨S8x128x32x3, .f32⟩
  | 105 => ⟨S8x128x1x3, .f32⟩
  | 106 => ⟨S8x128x32x3, .f32⟩
  | 107 => ⟨S8x128x32x3, .f32⟩
  | 108 => ⟨S_, .i32⟩
  | 109 => ⟨S8x128x32, .i32⟩
  | 110 => ⟨S8x128x32, .i1⟩
  | 111 => ⟨S_, .i32⟩
  | 112 => ⟨S8x128x32, .i32⟩
  | 113 => ⟨S8x128x32, .i32⟩
  | 114 => ⟨S8x128x32, .i32⟩
  | 115 => ⟨S8x128x32x1, .i32⟩
  | 116 => ⟨S8x128x32, .i1⟩
  | 117 => ⟨S_, .i32⟩
  | 118 => ⟨S8x52, .i32⟩
  | 119 => ⟨S8x52, .i1⟩
  | 120 => ⟨S_, .i32⟩
  | 121 => ⟨S8x52, .i32⟩
  | 122 => ⟨S8x52, .i32⟩
  | 123 => ⟨S8x52, .i32⟩
  | 124 => ⟨S8x52x1, .i32⟩
  | 125 => ⟨S8x52x32x3, .f32⟩
  | 126 => ⟨S416x32x3, .f32⟩
  | 127 => ⟨S_, .i32⟩
  | _ => ⟨S8x2048x3, .f32⟩

abbrev hbmTy0_1 (i : Nat) : BufTy := match i % 128 with
  | 0 => ⟨S8x52, .i32⟩
  | 1 => ⟨S8x52, .i1⟩
  | 2 => ⟨S_, .i32⟩
  | 3 => ⟨S8x52, .i32⟩
  | 4 => ⟨S8x52, .i32⟩
  | 5 => ⟨S8x52, .i32⟩
  | 6 => ⟨S8x52x1, .i32⟩
  | 7 => ⟨S8x52x32, .i1⟩
  | 8 => ⟨S416x32, .i1⟩
  | 9 => ⟨S416x32x128, .f32⟩
  | 10 => ⟨S1x1x128, .f32⟩
  | 11 => ⟨S416x32x128, .f32⟩
  | 12 => ⟨S416x32x128, .f32⟩
  | 13 => ⟨S_, .f32⟩
  | 14 => ⟨S416x32x128, .f32⟩
  | 15 => ⟨S416x32x128, .f32⟩
  | 16 => ⟨S416x32x256, .f32⟩
  | 17 => ⟨S1x1x256, .f32⟩
  | 18 => ⟨S416x32x256, .f32⟩
  | 19 => ⟨S416x32x256, .f32⟩
  | 20 => ⟨S416x32x1, .i1⟩
  | 21 => ⟨S416x32x256, .i1⟩
  | 22 => ⟨S_, .f32⟩
  | 23 => ⟨S416x32x256, .f32⟩
  | 24 => ⟨S416x32x256, .f32⟩
  | 25 => ⟨S_, .f32⟩
  | 26 => ⟨S416x256, .f32⟩
  | 27 => ⟨S416x1x256, .f32⟩
  | 28 => ⟨S416x32x256, .f32⟩
  | 29 => ⟨S416x32x512, .f32⟩
  | 30 => ⟨S416x32x512, .f32⟩
  | 31 => ⟨S1x1x512, .f32⟩
  | 32 => ⟨S416x32x512, .f32⟩
  | 33 => ⟨S416x32x512, .f32⟩
  | 34 => ⟨S_, .f32⟩
  | 35 => ⟨S416x32x512, .f32⟩
  | 36 => ⟨S416x32x512, .f32⟩
  | 37 => ⟨S416x32x384, .f32⟩
  | 38 => ⟨S1x1x384, .f32⟩
  | 39 => ⟨S416x32x384, .f32⟩
  | 40 => ⟨S416x32x384, .f32⟩
  | 41 => ⟨S416x32x1, .i1⟩
  | 42 => ⟨S416x32x384, .i1⟩
  | 43 => ⟨S_, .f32⟩
  | 44 => ⟨S416x32x384, .f32⟩
  | 45 => ⟨S416x32x384, .f32⟩
  | 46 => ⟨S_, .f32⟩
  | 47 => ⟨S416x384, .f32⟩
  | 48 => ⟨S8x52x384, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_c_2 : Ref sig .tc := ⟨.hbm, 25, rfl⟩
abbrev main_c_3 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v11_3 : Ref sig .tc := ⟨.hbm, 30, rfl⟩
abbrev main_v11_4 : Ref sig .tc := ⟨.hbm, 31, rfl⟩
abbrev main_v11_5 : Ref sig .tc := ⟨.hbm, 32, rfl⟩
abbrev main_v11_6 : Ref sig .tc := ⟨.hbm, 33, rfl⟩
abbrev main_v11_7 : Ref sig .tc := ⟨.hbm, 34, rfl⟩
abbrev main_while0c_c_29 : Ref sig .tc := ⟨.hbm, 35, rfl⟩
abbrev main_while0c_v98 : Ref sig .tc := ⟨.hbm, 36, rfl⟩
abbrev main_while0b_c_29 : Ref sig .tc := ⟨.hbm, 37, rfl⟩
abbrev main_while0b_v98 : Ref sig .tc := ⟨.hbm, 38, rfl⟩
abbrev main_while0b_v99 : Ref sig .tc := ⟨.hbm, 39, rfl⟩
abbrev main_while0b_c_30 : Ref sig .tc := ⟨.hbm, 40, rfl⟩
abbrev main_while0b_v100 : Ref sig .tc := ⟨.hbm, 41, rfl⟩
abbrev main_while0b_v101 : Ref sig .tc := ⟨.hbm, 42, rfl⟩
abbrev main_while0b_c_31 : Ref sig .tc := ⟨.hbm, 43, rfl⟩
abbrev main_while0b_v102 : Ref sig .tc := ⟨.hbm, 44, rfl⟩
abbrev main_while0b_v103 : Ref sig .tc := ⟨.hbm, 45, rfl⟩
abbrev main_while0b_v104 : Ref sig .tc := ⟨.hbm, 46, rfl⟩
abbrev main_while0b_v105 : Ref sig .tc := ⟨.hbm, 47, rfl⟩
abbrev main_while0b_v106 : Ref sig .tc := ⟨.hbm, 48, rfl⟩
abbrev main_while0b_v107 : Ref sig .tc := ⟨.hbm, 49, rfl⟩
abbrev main_while0b_v108 : Ref sig .tc := ⟨.hbm, 50, rfl⟩
abbrev main_while0b_v109 : Ref sig .tc := ⟨.hbm, 51, rfl⟩
abbrev main_while0b_cst_32 : Ref sig .tc := ⟨.hbm, 52, rfl⟩
abbrev main_while0b_v110 : Ref sig .tc := ⟨.hbm, 53, rfl⟩
abbrev main_while0b_v111 : Ref sig .tc := ⟨.hbm, 54, rfl⟩
abbrev main_while0b_v112 : Ref sig .tc := ⟨.hbm, 55, rfl⟩
abbrev main_while0b_v113 : Ref sig .tc := ⟨.hbm, 56, rfl⟩
abbrev main_while0b_call0_v0 : Ref sig .tc := ⟨.hbm, 57, rfl⟩
abbrev main_while0b_call0_cst : Ref sig .tc := ⟨.hbm, 58, rfl⟩
abbrev main_while0b_call0_c : Ref sig .tc := ⟨.hbm, 59, rfl⟩
abbrev main_while0b_call0_v1_0 : Ref sig .tc := ⟨.hbm, 60, rfl⟩
abbrev main_while0b_v114 : Ref sig .tc := ⟨.hbm, 61, rfl⟩
abbrev main_while0b_v115 : Ref sig .tc := ⟨.hbm, 62, rfl⟩
abbrev main_while0b_v116 : Ref sig .tc := ⟨.hbm, 63, rfl⟩
abbrev main_while0b_v117 : Ref sig .tc := ⟨.hbm, 64, rfl⟩
abbrev main_while0b_v118 : Ref sig .tc := ⟨.hbm, 65, rfl⟩
abbrev main_while0b_v119 : Ref sig .tc := ⟨.hbm, 66, rfl⟩
abbrev main_while0b_v120 : Ref sig .tc := ⟨.hbm, 67, rfl⟩
abbrev main_while0b_v121 : Ref sig .tc := ⟨.hbm, 68, rfl⟩
abbrev main_while0b_c_33 : Ref sig .tc := ⟨.hbm, 69, rfl⟩
abbrev main_while0b_v122 : Ref sig .tc := ⟨.hbm, 70, rfl⟩
abbrev main_c_4 : Ref sig .tc := ⟨.hbm, 71, rfl⟩
abbrev main_v12 : Ref sig .tc := ⟨.hbm, 72, rfl⟩
abbrev main_v13 : Ref sig .tc := ⟨.hbm, 73, rfl⟩
abbrev main_c_5 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_cst_6 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst_7 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_values : Ref sig .tc := ⟨.hbm, 94, rfl⟩
abbrev main_indices : Ref sig .tc := ⟨.hbm, 95, rfl⟩
abbrev main_c_8 : Ref sig .tc := ⟨.hbm, 96, rfl⟩
abbrev main_v31 : Ref sig .tc := ⟨.hbm, 97, rfl⟩
abbrev main_v32 : Ref sig .tc := ⟨.hbm, 98, rfl⟩
abbrev main_c_9 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_c_10 : Ref sig .tc := ⟨.hbm, 108, rfl⟩
abbrev main_v41 : Ref sig .tc := ⟨.hbm, 109, rfl⟩
abbrev main_v42 : Ref sig .tc := ⟨.hbm, 110, rfl⟩
abbrev main_c_11 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_c_12 : Ref sig .tc := ⟨.hbm, 117, rfl⟩
abbrev main_v48 : Ref sig .tc := ⟨.hbm, 118, rfl⟩
abbrev main_v49 : Ref sig .tc := ⟨.hbm, 119, rfl⟩
abbrev main_c_13 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_c_14 : Ref sig .tc := ⟨.hbm, 127, rfl⟩
abbrev main_v56 : Ref sig .tc := ⟨.hbm, 128, rfl⟩
abbrev main_v57 : Ref sig .tc := ⟨.hbm, 129, rfl⟩
abbrev main_c_15 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_cst_16 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_cst_17 : Ref sig .tc := ⟨.hbm, 150, rfl⟩
abbrev main_v76 : Ref sig .tc := ⟨.hbm, 151, rfl⟩
abbrev main_v77 : Ref sig .tc := ⟨.hbm, 152, rfl⟩
abbrev main_cst_18 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_cst_19 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_cst_20 : Ref sig .tc := ⟨.hbm, 171, rfl⟩
abbrev main_v94 : Ref sig .tc := ⟨.hbm, 172, rfl⟩
abbrev main_v95 : Ref sig .tc := ⟨.hbm, 173, rfl⟩
abbrev main_cst_21 : Ref sig .tc := ⟨.hbm, 174, rfl⟩
abbrev main_v96 : Ref sig .tc := ⟨.hbm, 175, rfl⟩
abbrev main_v97 : Ref sig .tc := ⟨.hbm, 176, rfl⟩

abbrev nD : Nat := 1
abbrev τ : Topo := Topo.v7x

variable {F : FTy → Type} [FloatOps F]

abbrev main_while0_count : Scf.Loop 32 := ⟨0#32, 127#32, 1#32⟩
-- ==== Proof.KernelRun.lean ====
/-
  The kernel's run: from the launch to the return, with what every unscoped buffer holds at the end.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs, and every unscoped buffer ends with the last boundary's contents. -/
theorem run_contents : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W8 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c b hb => h c _ (mem_uc b hb))

end Cert.KernelIdeal.Gen
-- ==== Proof.Select.lean ====
module

public import Idealize.ShloMosaic.Lib.Pointwise
public import Idealize.ShloMosaic.Lib.SortFacts
public import Idealize.ShloMosaic.PureOps.Ideal.Laws

@[expose] public section
noncomputable section
namespace Cert.Proof.Select
open Idealize.ShloMosaic

/-! ## The first greatest entry of a row of extended reals -/

section First
variable {n : Nat} [NeZero n]

/-- Some element of a row is greatest. -/
theorem greatest_nonempty (f : Fin n → EReal) :
    (Finset.univ.filter fun i => ∀ j, f j ≤ f i).Nonempty := by
  obtain ⟨i, -, hi⟩ := Finset.exists_max_image (Finset.univ : Finset (Fin n)) f ⟨0, Finset.mem_univ _⟩
  exact ⟨i, Finset.mem_filter.2 ⟨Finset.mem_univ _, fun j => hi j (Finset.mem_univ j)⟩⟩

/-- The least position at which the row is greatest. -/
def firstMax (f : Fin n → EReal) : Fin n :=
  (Finset.univ.filter fun i => ∀ j, f j ≤ f i).min' (greatest_nonempty f)

/-- The least position at which the row is least. -/
def firstMin (f : Fin n → EReal) : Fin n := firstMax fun i => -f i

/-- No entry exceeds the one at the first greatest position. -/
theorem le_firstMax (f : Fin n → EReal) (j : Fin n) : f j ≤ f (firstMax f) :=
  (Finset.mem_filter.1 (Finset.min'_mem _ (greatest_nonempty f))).2 j

/-- Every position of a greatest entry is at or behind the first one. -/
theorem firstMax_le (f : Fin n → EReal) (i : Fin n) (h : ∀ j, f j ≤ f i) : firstMax f ≤ i :=
  Finset.min'_le _ _ (Finset.mem_filter.2 ⟨Finset.mem_univ _, h⟩)

/-- A position that no entry exceeds, and all earlier ones stay below, is the first greatest one. -/
theorem firstMax_eq (f : Fin n → EReal) (i : Fin n) (h : ∀ j, f j ≤ f i) (h' : ∀ j, j < i → f j < f i) :
    firstMax f = i := by
  refine le_antisymm (firstMax_le f i h) (not_lt.1 fun hlt => ?_)
  exact absurd (le_firstMax f i) (not_le.2 (h' _ hlt))

/-- The same for the first least position. -/
theorem firstMin_eq (f : Fin n → EReal) (i : Fin n) (h : ∀ j, f i ≤ f j) (h' : ∀ j, j < i → f i < f j) :
    firstMin f = i :=
  firstMax_eq _ i (fun j => EReal.neg_le_neg_iff.2 (h j)) fun j hj => EReal.neg_lt_neg_iff.2 (h' j hj)

/-- The kernel's arg-max along an axis is the first greatest position of the row it reduces. -/
theorem reduceIndex_max {s t : Shape} (axis : Fin s.rank) (h : s.Reduces [axis] t) (x : s.Idx → EReal) (j : t.Idx)
    (e : Fin n → s.Idx) (he : ∀ i, h.drop i = j ↔ ∃ k, e k = i) (ha : ∀ k, (e k axis).val = k.val) :
    Ideal.reduceIndex .argMax axis h x j = BitVec.ofNat 32 (firstMax fun k => x (e k)).val := by
  unfold Ideal.reduceIndex
  simp only [if_true]
  congr 1
  have hm : ∀ S : Finset ℕ, ∀ m : ℕ, S.min = (m : WithTop ℕ) → S.min.getD 0 = m := fun S m h => by rw [h]; rfl
  apply hm
  refine le_antisymm (Finset.min_le (Finset.mem_image.2 ⟨e (firstMax fun k => x (e k)), ?_, ha _⟩))
    (Finset.le_min fun a hmem => ?_)
  · refine Finset.mem_filter.2 ⟨Finset.mem_filter.2 ⟨Finset.mem_univ _, (he _).2 ⟨_, rfl⟩⟩, fun i' hi' => ?_⟩
    obtain ⟨k, rfl⟩ := (he _).1 (Finset.mem_filter.1 hi').2
    exact not_lt.2 (le_firstMax (fun k => x (e k)) k)
  · obtain ⟨i, hi, rfl⟩ := Finset.mem_image.1 hmem
    obtain ⟨hi1, hi2⟩ := Finset.mem_filter.1 hi
    obtain ⟨k, rfl⟩ := (he _).1 (Finset.mem_filter.1 hi1).2
    rw [ha k]
    refine WithTop.coe_le_coe.2 (firstMax_le (fun k => x (e k)) k fun k' => ?_)
    exact not_lt.1 (hi2 (e k') (Finset.mem_filter.2 ⟨Finset.mem_univ _, (he _).2 ⟨_, rfl⟩⟩))

/-- The kernel's arg-min along an axis is the first least position of the row it reduces. -/
theorem reduceIndex_min {s t : Shape} (axis : Fin s.rank) (h : s.Reduces [axis] t) (x : s.Idx → EReal) (j : t.Idx)
    (e : Fin n → s.Idx) (he : ∀ i, h.drop i = j ↔ ∃ k, e k = i) (ha : ∀ k, (e k axis).val = k.val) :
    Ideal.reduceIndex .argMin axis h x j = BitVec.ofNat 32 (firstMin fun k => x (e k)).val := by
  unfold firstMin
  rw [← reduceIndex_max axis h (fun i => -x i) j e he ha]
  unfold Ideal.reduceIndex
  simp only [if_true, if_false, reduceCtorEq, EReal.neg_lt_neg_iff]

end First

/-! ## The host's arg-max -/

/-- One step of jax's arg-max on (value, position) pairs, over the extended reals. -/
def better (a b : EReal × BitVec 32) : EReal × BitVec 32 :=
  if b.1 < a.1 then a else if a.1 = b.1 ∧ a.2.slt b.2 then (b.1, a.2) else b

/-- Folding `better` over the entries at rising positions keeps the first greatest of those passed. -/
theorem foldl_better {n : Nat} (hn : n < 2 ^ 31) (f : Fin n → EReal) (l : List (Fin n)) (hl : l.Pairwise (· < ·)) (m : Fin n)
    (hm : ∀ i ∈ l, m < i) :
    ∃ k : Fin n, l.foldl (fun a i => better a (f i, BitVec.ofNat 32 i.val)) (f m, BitVec.ofNat 32 m.val)
        = (f k, BitVec.ofNat 32 k.val)
      ∧ (k = m ∨ k ∈ l) ∧ f m ≤ f k ∧ (∀ i ∈ l, f i ≤ f k) ∧ (k = m ∨ f m < f k) ∧ ∀ i ∈ l, i < k → f i < f k := by
  induction l generalizing m with
  | nil => exact ⟨m, rfl, Or.inl rfl, le_rfl, by simp, Or.inl rfl, by simp⟩
  | cons a l ih =>
    obtain ⟨ha, hl'⟩ := List.pairwise_cons.1 hl
    have hma : m < a := hm a List.mem_cons_self
    by_cases hlt : f m < f a
    · have hb : better (f m, BitVec.ofNat 32 m.val) (f a, BitVec.ofNat 32 a.val) = (f a, BitVec.ofNat 32 a.val) := by
        unfold better
        rw [if_neg (not_lt.2 hlt.le), if_neg (fun h => hlt.ne h.1)]
      obtain ⟨k, h1, h2, h3, h4, h5, h6⟩ := ih hl' a ha
      refine ⟨k, by rw [List.foldl_cons, hb, h1], Or.inr ?_, hlt.le.trans h3, ?_, Or.inr (hlt.trans_le h3), ?_⟩
      · rcases h2 with rfl | h2
        · exact List.mem_cons_self
        · exact List.mem_cons_of_mem _ h2
      · intro i hi
        rcases List.mem_cons.1 hi with rfl | hi
        · exact h3
        · exact h4 i hi
      · intro i hi hik
        rcases List.mem_cons.1 hi with rfl | hi
        · rcases h5 with rfl | h5
          · exact absurd hik (lt_irrefl _)
          · exact h5
        · exact h6 i hi hik
    · have hle : f a ≤ f m := not_lt.1 hlt
      have hb : better (f m, BitVec.ofNat 32 m.val) (f a, BitVec.ofNat 32 a.val) = (f m, BitVec.ofNat 32 m.val) := by
        unfold better
        rcases lt_or_eq_of_le hle with h | h
        · rw [if_pos h]
        · have hs : (BitVec.ofNat 32 m.val).slt (BitVec.ofNat 32 a.val) = true := by
            rw [BitVec.slt_eq_decide, decide_eq_true_eq, BitVec.toInt_eq_toNat_of_lt, BitVec.toInt_eq_toNat_of_lt]
            · simp only [BitVec.toNat_ofNat]; have := m.isLt; have := a.isLt; have : m.val < a.val := hma; omega
            · simp only [BitVec.toNat_ofNat]; have := a.isLt; omega
            · simp only [BitVec.toNat_ofNat]; have := m.isLt; omega
          rw [if_neg (by simp [h]), if_pos ⟨h.symm, hs⟩, h]
      obtain ⟨k, h1, h2, h3, h4, h5, h6⟩ := ih hl' m (fun i hi => hm i (List.mem_cons_of_mem _ hi))
      refine ⟨k, by rw [List.foldl_cons, hb, h1], h2.imp id (List.mem_cons_of_mem _), h3, ?_, h5, ?_⟩
      · intro i hi
        rcases List.mem_cons.1 hi with rfl | hi
        · exact hle.trans h3
        · exact h4 i hi
      · intro i hi hik
        rcases List.mem_cons.1 hi with rfl | hi
        · rcases h5 with rfl | h5
          · exact absurd hik (not_lt.2 hma.le)
          · exact hle.trans_lt h5
        · exact h6 i hi hik

/-- The host's arg-max along an axis, its body being `better`, is the first greatest position of the row. -/
theorem argReduce_max {n : Nat} [NeZero n] (hn : n < 2 ^ 31) {s t u : Shape} {axes : List (Fin s.rank)}
    (g : Ideal .f32 × BitVec 32 → Ideal .f32 × BitVec 32 → Ideal .f32 × BitVec 32) (hg : ∀ a b, g a b = better a b)
    (x : FVec Ideal s .f32) (y : s.Idx → BitVec 32) (ix : u.Idx → Ideal .f32) (iy : u.Idx → BitVec 32)
    (h : s.ReducesTo axes t) (hu : 0 < u.numel) (j : t.Idx)
    (hix : ix (Shape.Idx.first hu) = (⊥ : EReal)) (hiy : iy (Shape.Idx.first hu) = 0#32)
    (e : Fin n → s.Idx) (he : ∀ i, h.drop i = j ↔ ∃ k, e k = i)
    (hmono : ∀ a b, s.rowMajor (e a) < s.rowMajor (e b) ↔ a < b) (hy : ∀ k, y (e k) = BitVec.ofNat 32 k.val) :
    (Host.argReduce g x y ix iy h hu j).2 = BitVec.ofNat 32 (firstMax fun k => x (e k)).val := by
  rw [Ideal.argReduce_eq_reduce2, Host.reduce2_eq_foldl_fiber, hix, hiy]
  have hfib : Host.argReduceFiber x y h j = (List.finRange n).map fun k => (x (e k), BitVec.ofNat 32 k.val) := by
    unfold Host.argReduceFiber
    have : ((List.finRange s.numel).filter fun m => h.drop (s.rowMajor.symm m) = j)
        = (List.finRange n).map fun k => s.rowMajor (e k) := by
      refine List.Perm.eq_of_pairwise' (r := (· < ·)) ((List.pairwise_lt_finRange _).filter _) ?_ ?_
      · rw [List.pairwise_map]
        exact (List.pairwise_lt_finRange n).imp fun {a b} h => (hmono a b).2 h
      · refine (List.perm_ext_iff_of_nodup ((List.nodup_finRange _).filter _) ?_).2 fun m => ?_
        · refine (List.nodup_finRange n).map fun a b hab => ?_
          by_contra hne
          rcases lt_or_gt_of_ne hne with h | h
          · exact absurd hab ((hmono _ _).2 h).ne
          · exact absurd hab ((hmono _ _).2 h).ne'
        · simp only [List.mem_filter, List.mem_finRange, true_and, decide_eq_true_eq, List.mem_map, he]
          exact exists_congr fun k => ⟨fun h => by rw [h]; simp, fun h => by rw [← h]; simp⟩
    rw [this, List.map_map]
    exact List.map_congr_left fun k _ => by simp [hy]
  rw [hfib, List.foldl_map]
  have hgg : g = better := funext fun a => funext fun b => hg a b
  subst hgg
  obtain ⟨m, rfl⟩ : ∃ m, n = m + 1 := ⟨n - 1, by have := NeZero.ne n; omega⟩
  have h0 : better ((⊥ : EReal), 0#32) (x (e 0), BitVec.ofNat 32 (0 : Fin (m + 1)).val) = (x (e 0), BitVec.ofNat 32 (0 : Fin (m + 1)).val) := by
    unfold better
    rw [if_neg not_lt_bot, if_neg (by simp)]
  rw [List.finRange_succ, List.foldl_cons]
  have hp : ((List.finRange m).map Fin.succ).Pairwise (· < ·) := by
    have := List.pairwise_lt_finRange (m + 1)
    rw [List.finRange_succ] at this
    exact (List.pairwise_cons.1 this).2
  obtain ⟨k, h1, -, h3, h4, h5, h6⟩ := foldl_better hn (fun k => x (e k)) ((List.finRange m).map Fin.succ) hp 0
    (fun i hi => by obtain ⟨a, -, rfl⟩ := List.mem_map.1 hi; exact Fin.succ_pos a)
  have h0' := congrArg (fun z => (((List.finRange m).map Fin.succ).foldl
    (fun a i => better a (x (e i), BitVec.ofNat 32 i.val)) z).2) h0
  refine h0'.trans ((congrArg Prod.snd h1).trans ?_)
  have hall : ∀ i : Fin (m + 1), i = 0 ∨ i ∈ (List.finRange m).map Fin.succ := fun i => by
    rcases Fin.eq_zero_or_eq_succ i with h | ⟨a, rfl⟩
    · exact Or.inl h
    · exact Or.inr (List.mem_map.2 ⟨a, List.mem_finRange a, rfl⟩)
  rw [firstMax_eq (fun k => x (e k)) k]
  · intro i
    rcases hall i with rfl | hi
    · exact h3
    · exact h4 i hi
  · intro i hik
    rcases hall i with rfl | hi
    · rcases h5 with rfl | h5
      · exact absurd hik (lt_irrefl _)
      · exact h5
    · exact h6 i hi hik

/-! ## A stable sort by a key of extended reals -/

section Sorting
variable {ι : Type} (d : ι → EReal) (P : ι → ι → Prop)

/-- Standing earlier in an ascending sort by `d` that keeps the given order among equal keys. -/
def Earlier (a b : ι) : Prop := d a < d b ∨ (d a = d b ∧ P a b)

/-- Inserting an element that precedes all others in the given order keeps the list sorted. -/
theorem insert_sorted (B : ι → ι → Bool) (hB : ∀ a b, B a b = true ↔ d a < d b) (a : ι) (l : List ι) (ha : ∀ b ∈ l, P a b)
    (hl : l.Pairwise (Earlier d P)) : (insertBefore B a l).Pairwise (Earlier d P) := by
  induction l with
  | nil => exact List.pairwise_singleton _ _
  | cons b l ih =>
    have hc := List.pairwise_cons.1 hl
    rw [insertBefore]
    by_cases hb : B b a = true
    · rw [if_pos hb]
      refine List.pairwise_cons.2 ⟨fun z hz => ?_, ih (fun z hz => ha z (List.mem_cons_of_mem _ hz)) hc.2⟩
      have hz' := (perm_insertBefore B a l).mem_iff.1 hz
      rcases List.mem_cons.1 hz' with hz' | hz'
      · rw [hz']; exact Or.inl ((hB _ _).1 hb)
      · exact hc.1 z hz'
    · rw [if_neg hb]
      have hab : d a ≤ d b := not_lt.1 fun h => hb ((hB _ _).2 h)
      refine List.pairwise_cons.2 ⟨fun z hz => ?_, hl⟩
      have hle : d a ≤ d z := by
        rcases List.mem_cons.1 hz with hz' | hz'
        · rw [hz']; exact hab
        · rcases hc.1 z hz' with h | h
          · exact hab.trans h.le
          · exact hab.trans h.1.le
      rcases lt_or_eq_of_le hle with h | h
      · exact Or.inl h
      · exact Or.inr ⟨h, ha z hz⟩

/-- The stable insertion sort by `d` leaves the list sorted, equal keys in their given order. -/
theorem sort_sorted (B : ι → ι → Bool) (hB : ∀ a b, B a b = true ↔ d a < d b) (l : List ι) (hl : l.Pairwise P) :
    (stableSort B l).Pairwise (Earlier d P) := by
  induction l with
  | nil => exact List.Pairwise.nil
  | cons a l ih =>
    have hc := List.pairwise_cons.1 hl
    rw [stableSort]
    exact insert_sorted d P B hB a _ (fun z hz => hc.1 z ((perm_stableSort B l).mem_iff.1 hz)) (ih hc.2)

end Sorting

/-! ## Taking the nearest one after the other -/

section Nearest
variable {n : Nat} [NeZero n] (d : Fin n → EReal)

/-- The distances left after `k` rounds, each of which raises the first least one to infinity. -/
def left : ℕ → Fin n → EReal
  | 0 => d
  | k + 1 => fun i => if i = firstMin (left k) then ⊤ else left k i

/-- The position taken in round `k`. -/
def pick (k : ℕ) : Fin n := firstMin (left d k)

/-- What `k` rounds leave: infinity at the positions picked, the rest as it was. -/
theorem left_eq (k : ℕ) (i : Fin n) : left d k i = if ∃ j < k, pick d j = i then ⊤ else d i := by
  induction k with
  | zero => simp [left]
  | succ k ih =>
    show (if i = firstMin (left d k) then ⊤ else left d k i) = _
    by_cases h : i = firstMin (left d k)
    · rw [if_pos h, if_pos ⟨k, Nat.lt_succ_self k, h.symm⟩]
    · rw [if_neg h, ih]
      refine if_congr ⟨fun ⟨j, hj, e⟩ => ⟨j, hj.trans (Nat.lt_succ_self k), e⟩, fun ⟨j, hj, e⟩ => ?_⟩ rfl rfl
      rcases Nat.lt_succ_iff_lt_or_eq.1 hj with hj | rfl
      · exact ⟨j, hj, e⟩
      · exact absurd e.symm h

/-- With more than `k` finite distances, the position sorted to place `k` is the one round `k` takes, and its
    distance is finite. -/
theorem sorted_eq_pick (B : Fin n → Fin n → Bool) (hB : ∀ a b, B a b = true ↔ d a < d b) (k : Fin n)
    (hk : k.val < (Finset.univ.filter fun i => d i < ⊤).card) :
    sortedFrom B k = pick d k.val ∧ d (pick d k.val) < ⊤ := by
  obtain ⟨k, hkn⟩ := k
  simp only at hk ⊢
  induction k using Nat.strong_induction_on with
  | _ k ih =>
  have hord : ∀ i j : Fin n, i < j → Earlier d (· < ·) (sortedFrom B i) (sortedFrom B j) := fun i j hij => by
    have := List.pairwise_iff_get.1 (sort_sorted d (· < ·) B hB (List.finRange n) (List.pairwise_lt_finRange n))
    exact this (i.cast (length_sortPositions n B).symm) (j.cast (length_sortPositions n B).symm) hij
  have hle : ∀ i j : Fin n, i ≤ j → d (sortedFrom B i) ≤ d (sortedFrom B j) := fun i j hij => by
    rcases lt_or_eq_of_le hij with h | rfl
    · rcases hord i j h with h | h
      · exact h.le
      · exact h.1.le
    · exact le_rfl
  have hfin : d (sortedFrom B ⟨k, hkn⟩) < ⊤ := by
    by_contra hno
    have htop : d (sortedFrom B ⟨k, hkn⟩) = ⊤ := not_lt_top_iff.1 hno
    have hsub : (Finset.univ.filter fun i => d i < ⊤) ⊆ (Finset.univ.filter fun i : Fin n => i.val < k).image (sortedFrom B) := by
      intro i hi
      obtain ⟨j, rfl⟩ := sortedFrom_surjective B i
      refine Finset.mem_image.2 ⟨j, Finset.mem_filter.2 ⟨Finset.mem_univ _, ?_⟩, rfl⟩
      by_contra hge
      have := hle ⟨k, hkn⟩ j (not_lt.1 hge)
      rw [htop, top_le_iff] at this
      exact absurd (Finset.mem_filter.1 hi).2 (by rw [this]; exact lt_irrefl _)
    have hc := (Finset.card_le_card hsub).trans Finset.card_image_le
    have hcard : (Finset.univ.filter fun i : Fin n => i.val < k).card ≤ k := by
      have : (Finset.univ.filter fun i : Fin n => i.val < k).card ≤ (Finset.range k).card :=
        Finset.card_le_card_of_injOn Fin.val (fun i hi => by simpa using hi) (Fin.val_injective.injOn)
      simpa using this
    omega
  have hpick : ∀ j (hj : j < k), pick d j = sortedFrom B ⟨j, hj.trans hkn⟩ := fun j hj =>
    (ih j hj (hj.trans hkn) (hj.trans hk)).1.symm
  have hin : ∀ j : Fin n, (∃ i < k, pick d i = sortedFrom B j) ↔ j.val < k := fun j => by
    constructor
    · rintro ⟨i, hi, e⟩
      rw [hpick i hi] at e
      have := sortedFrom_injective B e
      rw [← this]; exact hi
    · intro hj
      exact ⟨j.val, hj, hpick _ hj⟩
  have hself : left d k (sortedFrom B ⟨k, hkn⟩) = d (sortedFrom B ⟨k, hkn⟩) := by
    rw [left_eq, if_neg (by rw [hin]; exact lt_irrefl k)]
  have heq : pick d k = sortedFrom B ⟨k, hkn⟩ := by
    refine firstMin_eq _ _ (fun j => ?_) fun j hj => ?_
    · rw [hself]
      obtain ⟨j, rfl⟩ := sortedFrom_surjective B j
      rw [left_eq]
      split
      · exact le_top
      · next h =>
        rw [hin] at h
        exact hle _ _ (not_lt.1 h)
    · rw [hself]
      obtain ⟨j, rfl⟩ := sortedFrom_surjective B j
      rw [left_eq]
      split
      · exact hfin
      · next h =>
        rw [hin] at h
        have hkj : (⟨k, hkn⟩ : Fin n) ≤ j := not_lt.1 h
        rcases lt_or_eq_of_le hkj with h | h
        · rcases hord _ _ h with h | h
          · exact h
          · exact absurd h.2 (not_lt.2 hj.le)
        · rw [← h] at hj
          exact absurd hj (lt_irrefl _)
  exact ⟨heq.symm, heq ▸ hfin⟩

end Nearest

end Cert.Proof.Select
-- ==== Proof.Sampling.lean ====
module

public import proofs.«01_k».proof.Proof.Select

@[expose] public section
noncomputable section
namespace Cert.Proof.Sampling
open Idealize.ShloMosaic Cert.Proof.Select

/-! ## The mathematics of sampling and grouping one cloud of 2048 points -/

/-- The squared distance of two points of space. -/
def apart (p q : Fin 3 → EReal) : EReal :=
  (p 0 - q 0) * (p 0 - q 0) + (p 1 - q 1) * (p 1 - q 1) + (p 2 - q 2) * (p 2 - q 2)

/-- Whether position `n` lies within the length of the cloud. -/
def valid (len : BitVec 32) (n : Fin 2048) : BitVec 1 := IntOp.cmpi .slt (BitVec.ofNat 32 n.val) len

variable (x : Fin 2048 → Fin 3 → EReal) (len : BitVec 32)

/-- The distances to the points taken so far, before the next one, when the last one taken is at `l`. -/
def nearer (d : Fin 2048 → EReal) (l : Fin 2048) (n : Fin 2048) : EReal :=
  Scalar.select (valid len n) (min (d n) (apart (x n) (x l))) ⊥

/-- The distances to the points sampled in `k` rounds, and the point sampled last. -/
def rounds : ℕ → (Fin 2048 → EReal) × Fin 2048
  | 0 => (fun n => Scalar.select (valid len n) ⊤ ⊥, 0)
  | k + 1 => (nearer x len (rounds k).1 (rounds k).2, firstMax (nearer x len (rounds k).1 (rounds k).2))

/-- The position of the `k`-th sampled point: the first point, then always the one farthest from those before. -/
def sampled (k : ℕ) : Fin 2048 := (rounds x len k).2

/-- The distances of the cloud's points to a centre, infinite behind the length of the cloud. -/
def around (c : Fin 3 → EReal) (n : Fin 2048) : EReal := Scalar.select (valid len n) (apart (x n) c) ⊤

/-- Member `k` of the group about the `g`-th sampled point, relative to that point. -/
def member (g : ℕ) (k : ℕ) (a : Fin 3) : EReal :=
  x (pick (around x len (x (sampled x len g))) k) a - x (sampled x len g) a

/-! ## Words -/

/-- The float that marks infinity. -/
theorem top_bits : Ideal.ofBits .f32 0x7F800000#32 = ⊤ := by simp [Ideal.ofBits, Ideal.ieee]

/-- The float that marks minus infinity. -/
theorem bot_bits : Ideal.ofBits .f32 0xFF800000#32 = ⊥ := by simp [Ideal.ofBits, Ideal.ieee]

/-- Words of small numbers agree just when the numbers do. -/
theorem word_eq {a b : ℕ} (ha : a < 2 ^ 31) (hb : b < 2 ^ 31) :
    IntOp.cmpi .eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      simp only [BitVec.toNat_ofNat] at this
      omega)
    simp [IntOp.cmpi, h, beq_false_of_ne this]

/-- The choice by such a comparison. -/
theorem select_word {α : Type} {a b : ℕ} (ha : a < 2 ^ 31) (hb : b < 2 ^ 31) (u v : α) :
    Scalar.select (IntOp.cmpi .eq (BitVec.ofNat 32 a) (BitVec.ofNat 32 b)) u v = if a = b then u else v := by
  rw [word_eq ha hb]
  by_cases h : a = b <;> simp [h, Scalar.select]

/-- A sum against the row that is one at position `i` and zero elsewhere is the entry at `i`. -/
theorem sum_one_hot {N : ℕ} (hN : N ≤ 2 ^ 31) (f : Fin N → EReal) (i : Fin N) :
    (∑ n, f n * (FloatOps.sitofp .f32 (BitVec.setWidth 32 (IntOp.cmpi .eq (BitVec.ofNat 32 n.val) (BitVec.ofNat 32 i.val))) : Ideal .f32))
      = f i := by
  have : ∀ n : Fin N, (FloatOps.sitofp .f32 (BitVec.setWidth 32 (IntOp.cmpi .eq (BitVec.ofNat 32 n.val) (BitVec.ofNat 32 i.val))) : Ideal .f32)
      = if n = i then (1 : EReal) else 0 := fun n => by
    rw [word_eq (lt_of_lt_of_le n.isLt hN) (lt_of_lt_of_le i.isLt hN)]
    by_cases h : n = i
    · rw [if_pos (congrArg Fin.val h), if_pos h]
      show (((BitVec.setWidth 32 1#1).toInt : ℝ) : EReal) = 1
      simp
    · rw [if_neg (fun e => h (Fin.ext e)), if_neg h]
      show (((BitVec.setWidth 32 0#1).toInt : ℝ) : EReal) = 0
      simp
  simp only [this, mul_ite, mul_one, mul_zero, Finset.sum_ite_eq', Finset.mem_univ, if_true]

/-- A sum of the entries kept at position `i` alone is the entry there. -/
theorem sum_kept {N : ℕ} (hN : N ≤ 2 ^ 31) (f : Fin N → EReal) (i : Fin N) :
    (∑ n : Fin N, Scalar.select (IntOp.cmpi .eq (BitVec.ofNat 32 n.val) (BitVec.ofNat 32 i.val)) (f n) 0) = f i := by
  have : ∀ n : Fin N, Scalar.select (IntOp.cmpi .eq (BitVec.ofNat 32 n.val) (BitVec.ofNat 32 i.val)) (f n) 0
      = if n = i then f n else 0 := fun n => by
    rw [select_word (lt_of_lt_of_le n.isLt hN) (lt_of_lt_of_le i.isLt hN)]
    exact if_congr ⟨fun h => Fin.ext h, fun h => congrArg _ h⟩ rfl rfl
  simp only [this, Finset.sum_ite_eq', Finset.mem_univ, if_true]

/-- A property kept by every trip of a counted loop holds after all of them. -/
theorem fold_keeps {α : Type} {n : ℕ} (g : Fin n → α → α) (init : α) (I : ℕ → α → Prop) (h0 : I 0 init)
    (hs : ∀ (k : Fin n) a, I k.val a → I (k.val + 1) (g k a)) : I n (Scf.fold g init) := by
  rw [Scf.fold_eq]
  induction n generalizing α with
  | zero => simpa using h0
  | succ n ih =>
    rw [List.finRange_succ_last, List.foldl_append, List.foldl_map]
    exact hs (Fin.last n) _ (ih (fun k a => g k.castSucc a) init I h0 fun k a h => hs k.castSucc a h)

end Cert.Proof.Sampling
-- ==== Proof.FarthestKernel.lean ====
module

public import proofs.«01_k».proof.Proof.Gen.KernelIdeal.Frame
public import proofs.«01_k».proof.Proof.Sampling
public import Idealize.ShloMosaic.Lib.Pipeline.ValueKit

@[expose] public section
set_option maxRecDepth 16384
noncomputable section
namespace Cert.Proof.FarthestKernel
open Idealize.ShloMosaic Cert.KernelIdeal Cert.KernelIdeal.Gen Idealize.ShloMosaic.Tactic
open Cert.Proof.Select Cert.Proof.Sampling

variable (X Y Z : Vec Ideal S8x1x2048 .f32) (L : Vec Ideal S8x1x1 .i32) (D : FVec Ideal S8x2048 .f32) (A : IVec S8x1 32)
  (C : FVec Ideal S8x128 .f32) (b : Fin 8)

/-- Cloud `b` of the kernel's three coordinate rows. -/
def cloud (n : Fin 2048) : Fin 3 → EReal := ![X (ix3 b 0 n), Y (ix3 b 0 n), Z (ix3 b 0 n)]

/-- The sampled coordinate of one axis: the entry at the last position, taken by a one-hot sum. -/
theorem coord0 (l : Fin 2048) (h : A (ix2 b 0) = BitVec.ofNat 32 l.val) : k0_pay12 X A (ix2 b 0) = X (ix3 b 0 l) := by
  pointwise [k0_pay12, k0_pay4, k0_pay11]
  rw [h]; exact sum_one_hot (by norm_num) (fun n => X (ix3 b 0 n)) l

/-- The same for the second axis, -/
theorem coord1 (l : Fin 2048) (h : A (ix2 b 0) = BitVec.ofNat 32 l.val) : k0_pay13 Y A (ix2 b 0) = Y (ix3 b 0 l) := coord0 Y A b l h

/-- and for the third. -/
theorem coord2 (l : Fin 2048) (h : A (ix2 b 0) = BitVec.ofNat 32 l.val) : k0_pay14 Z A (ix2 b 0) = Z (ix3 b 0 l) := coord0 Z A b l h

/-- The distances after a round. -/
theorem nearer_eq (l : Fin 2048) (h : A (ix2 b 0) = BitVec.ofNat 32 l.val) (n : Fin 2048) :
    k0_pay19 X Y Z L D A (ix2 b n)
      = nearer (cloud X Y Z b) (L (ix3 b 0 0)) (fun n => D (ix2 b n)) l n := by
  pointwise [k0_pay19, k0_pay4, k0_pay5, k0_pay6, k0_pay7]
  rw [coord0 X A b l h, coord1 Y A b l h, coord2 Z A b l h, bot_bits]
  rfl

/-- The position sampled in a round. -/
theorem last_eq (l : Fin 2048) (h : A (ix2 b 0) = BitVec.ofNat 32 l.val) :
    k0_pay20 X Y Z L D A (ix2 b 0)
      = BitVec.ofNat 32 (firstMax (nearer (cloud X Y Z b) (L (ix3 b 0 0)) (fun n => D (ix2 b n)) l)).val := by
  pointwise [k0_pay20]
  refine (reduceIndex_max (n := 2048) 1 reduces_S8x2048_S8 (k0_pay19 X Y Z L D A) (ix1 b) (fun n => ix2 b n)
    (fun i => Shape.Reduces.fiber_r2_a1 _ _ _) (fun _ => rfl)).trans ?_
  simp only [nearer_eq X Y Z L D A b l h]

/-- The trip's mask of the one sample it writes. -/
theorem mask_eq (t : Fin k0_t1_loop.trips) (g : Fin 128) (u v : EReal) :
    Scalar.select (k0_pay15 t (ix2 b g)) u v = if g.val = t.val then u else v := by
  have ht : t.val < 127 := t.isLt
  pointwise [k0_pay15]
  have : Scalar.subi (Scf.iv 1#32 1#32 t.val) 1#32 = BitVec.ofNat 32 t.val := by
    unfold Scalar.subi Scf.iv IntOp.subi
    rw [show BitVec.ofNat 32 t.val * 1#32 = BitVec.ofNat 32 t.val from BitVec.mul_one _]
    rw [BitVec.add_comm, BitVec.add_sub_cancel]
  rw [this]
  exact select_word (by have := g.isLt; omega) (by omega) u v

/-- A round writes the coordinate of the last sampled point at the round's place: after it the places so far hold the samples so far. -/
theorem write_eq (p : Fin 2048 → Fin 3 → EReal) (n : BitVec 32) (t : Fin k0_t1_loop.trips) (h : A (ix2 b 0) = BitVec.ofNat 32 (sampled p n t.val).val)
    (hC : ∀ g : Fin 128, g.val < t.val → C (ix2 b g) = X (ix3 b 0 (sampled p n g.val))) (g : Fin 128) (hg : g.val < t.val + 1) :
    k0_pay16 X t C A (ix2 b g) = X (ix3 b 0 (sampled p n g.val)) := by
  have e : k0_pay16 X t C A (ix2 b g) = if g.val = t.val then X (ix3 b 0 (sampled p n t.val)) else C (ix2 b g) := by
    rw [← mask_eq b]
    pointwise [k0_pay16]
    rw [coord0 X A b _ h]
  rw [e]
  split
  · next e => rw [e]
  · next e => exact hC g (by omega)

/-- What the loop carries after `k` rounds. -/
structure After (k : ℕ) (s : FVec Ideal S8x2048 .f32 × FVec Ideal S8x128 .f32 × FVec Ideal S8x128 .f32 × FVec Ideal S8x128 .f32 × IVec S8x1 32) : Prop where
  dist : ∀ n, s.1 (ix2 b n) = (rounds (cloud X Y Z b) (L (ix3 b 0 0)) k).1 n
  last : s.2.2.2.2 (ix2 b 0) = BitVec.ofNat 32 (rounds (cloud X Y Z b) (L (ix3 b 0 0)) k).2.val
  xs : ∀ g : Fin 128, g.val < k → s.2.1 (ix2 b g) = X (ix3 b 0 (sampled (cloud X Y Z b) (L (ix3 b 0 0)) g.val))
  ys : ∀ g : Fin 128, g.val < k → s.2.2.1 (ix2 b g) = Y (ix3 b 0 (sampled (cloud X Y Z b) (L (ix3 b 0 0)) g.val))
  zs : ∀ g : Fin 128, g.val < k → s.2.2.2.1 (ix2 b g) = Z (ix3 b 0 (sampled (cloud X Y Z b) (L (ix3 b 0 0)) g.val))

/-- The loop of the sampling kernel, as the fold of its trips. -/
def looped : FVec Ideal S8x2048 .f32 × FVec Ideal S8x128 .f32 × FVec Ideal S8x128 .f32 × FVec Ideal S8x128 .f32 × IVec S8x1 32 :=
  Scf.fold (n := k0_t1_loop.trips) (fun t s => (k0_pay19 X Y Z L s.1 s.2.2.2.2, k0_pay16 X t s.2.1 s.2.2.2.2, k0_pay17 Y t s.2.2.1 s.2.2.2.2,
      k0_pay18 Z t s.2.2.2.1 s.2.2.2.2, k0_pay20 X Y Z L s.1 s.2.2.2.2))
    (k0_pay8 L, k0_pay9, k0_pay9, k0_pay9, k0_pay10)

/-- After its 127 trips the loop has sampled 127 points and found the last one. -/
theorem after_all : After X Y Z L b 127 (looped X Y Z L) := by
  have h := fold_keeps (n := k0_t1_loop.trips) (fun t s => (k0_pay19 X Y Z L s.1 s.2.2.2.2, k0_pay16 X t s.2.1 s.2.2.2.2, k0_pay17 Y t s.2.2.1 s.2.2.2.2,
      k0_pay18 Z t s.2.2.2.1 s.2.2.2.2, k0_pay20 X Y Z L s.1 s.2.2.2.2))
    (k0_pay8 L, k0_pay9, k0_pay9, k0_pay9, k0_pay10) (After X Y Z L b) ?_ ?_
  · exact h
  · refine ⟨fun n => ?_, ?_, fun g hg => absurd hg (Nat.not_lt_zero _), fun g hg => absurd hg (Nat.not_lt_zero _), fun g hg => absurd hg (Nat.not_lt_zero _)⟩
    · pointwise [k0_pay8, k0_pay7]
      rw [top_bits, bot_bits]; rfl
    · pointwise [k0_pay10]
      rfl
  · intro t s hs
    have hl := hs.last
    have hd : (fun n => s.1 (ix2 b n)) = (rounds (cloud X Y Z b) (L (ix3 b 0 0)) t.val).1 := funext hs.dist
    refine ⟨fun n => ?_, ?_, fun g hg => ?_, fun g hg => ?_, fun g hg => ?_⟩
    · refine (nearer_eq X Y Z L s.1 _ b _ hl n).trans ?_
      rw [hd]; rfl
    · refine (last_eq X Y Z L s.1 _ b _ hl).trans ?_
      rw [hd]; rfl
    · exact write_eq X _ s.2.1 b _ _ t hl hs.xs g hg
    · exact write_eq Y _ s.2.2.1 b _ _ t hl hs.ys g hg
    · exact write_eq Z _ s.2.2.2.1 b _ _ t hl hs.zs g hg

/-- The mask of the last sample. -/
theorem maskLast_eq (g : Fin 128) (u v : EReal) : Scalar.select (k0_pay22 (ix2 b g)) u v = if g.val = 127 then u else v := by
  pointwise [k0_pay22]
  exact select_word (b := 127) (by have := g.isLt; omega) (by omega) u v

/-- What the kernel stores of one coordinate once the loop is left: that of every sampled point. -/
theorem stored_eq (p : Fin 2048 → Fin 3 → EReal) (n : BitVec 32) (h : A (ix2 b 0) = BitVec.ofNat 32 (sampled p n 127).val)
    (hC : ∀ g : Fin 128, g.val < 127 → C (ix2 b g) = X (ix3 b 0 (sampled p n g.val))) (g : Fin 128) :
    k0_pay1 (k0_pay23 X C A) (ix3 b 0 g) = X (ix3 b 0 (sampled p n g.val)) := by
  pointwise [k0_pay1, k0_pay23, k0_pay4, k0_pay21]
  rw [h, maskLast_eq, sum_one_hot (by norm_num) (fun n => X (ix3 b 0 n))]
  split
  · next e => rw [e]
  · next e => exact hC g (by have := g.isLt; omega)

/-- The first coordinates stored, -/
theorem out0 (g : Fin 128) : k0_pay1 (k0_pay23 X (looped X Y Z L).2.1 (looped X Y Z L).2.2.2.2) (ix3 b 0 g)
    = X (ix3 b 0 (sampled (cloud X Y Z b) (L (ix3 b 0 0)) g.val)) :=
  stored_eq X _ _ b _ _ (after_all X Y Z L b).last (after_all X Y Z L b).xs g

/-- the second ones, -/
theorem out1 (g : Fin 128) : k0_pay2 (k0_pay24 Y (looped X Y Z L).2.2.1 (looped X Y Z L).2.2.2.2) (ix3 b 0 g)
    = Y (ix3 b 0 (sampled (cloud X Y Z b) (L (ix3 b 0 0)) g.val)) :=
  stored_eq Y _ _ b _ _ (after_all X Y Z L b).last (after_all X Y Z L b).ys g

/-- and the third ones. -/
theorem out2 (g : Fin 128) : k0_pay3 (k0_pay6 Z) (looped X Y Z L).2.2.2.1 (k0_pay21 (looped X Y Z L).2.2.2.2) k0_pay22 (ix3 b 0 g)
    = Z (ix3 b 0 (sampled (cloud X Y Z b) (L (ix3 b 0 0)) g.val)) :=
  stored_eq Z _ _ b _ _ (after_all X Y Z L b).last (after_all X Y Z L b).zs g

/-- Cloud `b` of an array of three coordinate rows for each cloud. -/
def rows (x : Vec Ideal S8x3x2048 .f32) (b : Fin 8) (n : Fin 2048) (a : Fin 3) : EReal := x (ix3 b a n)

/-- The place inside a stored row that an element of the result has. -/
theorem place (b : Fin 8) (a : Fin 3) (g : Fin 128) (k : ℕ) (y : (⟨3, ![8, 1, 128]⟩ : Shape).Idx)
    (hy : ∀ i : Fin 3, ((ix3 b a g : S8x3x128.Idx) i).val = (![0, k, 0] : Fin 3 → ℕ) i + (y i).val) :
    y = ix3 b 0 g ∧ a.val = k := by
  have h0 : b.val = 0 + (y 0).val := hy 0
  have h1 : a.val = k + (y 1).val := hy 1
  have h2 : g.val = 0 + (y 2).val := hy 2
  have hlt : (y 1).val < 1 := (y 1).isLt
  refine ⟨?_, by omega⟩
  funext i
  apply Fin.ext
  match i with
  | 0 => show (y 0).val = b.val; omega
  | 1 => show (y 1).val = 0; omega
  | 2 => show (y 2).val = g.val; omega

/-- The sampling kernel's result: the coordinates of the sampled points. -/
theorem result (c : Dev nD) (arg0 : Memref sig .tc .vmem S8x3x2048 .f32) (harg0 : arg0.IsWhole)
    (arg1 : Memref sig .tc .vmem S8x1x1 .i32) (harg1 : arg1.IsWhole) (arg2 : Memref sig .tc .vmem S8x3x128 .f32) (harg2 : arg2.IsWhole)
    (x0 : Vec Ideal S8x3x2048 .f32) (x1 : Vec Ideal S8x1x1 .i32) (b : Fin 8) (a : Fin 3) (g : Fin 128) :
    out0_A_2 c arg0 harg0 arg1 harg1 arg2 harg2 x0 x1 (ix3 b a g)
      = rows x0 b (sampled (rows x0 b) (x1 (ix3 b 0 0)) g.val) a := by
  unfold out0_A_2
  rw [View.read_writes_eq_canon _ _ _ (cover0_A_2 c arg0 harg0 arg1 harg1 arg2 harg2 x0 x1)]
  refine View.canon_eq_of_allAt _ _ _ (cover0_A_2 c arg0 harg0 arg1 harg1 arg2 harg2 x0 x1 _) ?_
  unfold kernelRun0_A
  dsimp only
  sl_unfold_words
  simp only [View.readAt_eq_ld, harg0.read_unread, harg1.read_unread]
  have hc : ∀ n, cloud (View.ld x0 (Rect.unit (s := S8x3x2048) ![0, 0, 0] S8x1x2048.size inb_S8x3x2048_S8x1x2048_0_0_0)) (View.ld x0 (Rect.unit (s := S8x3x2048) ![0, 1, 0] S8x1x2048.size inb_S8x3x2048_S8x1x2048_0_1_0)) (View.ld x0 (Rect.unit (s := S8x3x2048) ![0, 2, 0] S8x1x2048.size inb_S8x3x2048_S8x1x2048_0_2_0)) b n = rows x0 b n := by
    intro n
    funext a
    match a with
    | 0 => exact congrArg x0 (by
        funext i
        match i with
        | 0 => exact Fin.ext (show 0 + 1 * b.val = b.val by omega)
        | 1 => rfl
        | 2 => exact Fin.ext (show 0 + 1 * n.val = n.val by omega))
    | 1 => exact congrArg x0 (by
        funext i
        match i with
        | 0 => exact Fin.ext (show 0 + 1 * b.val = b.val by omega)
        | 1 => rfl
        | 2 => exact Fin.ext (show 0 + 1 * n.val = n.val by omega))
    | 2 => exact congrArg x0 (by
        funext i
        match i with
        | 0 => exact Fin.ext (show 0 + 1 * b.val = b.val by omega)
        | 1 => rfl
        | 2 => exact Fin.ext (show 0 + 1 * n.val = n.val by omega))
  have hl : View.ld x1 (Rect.unit (s := S8x1x1) ![0, 0, 0] S8x1x1.size inb_S8x1x1_S8x1x1_0_0_0) (ix3 b 0 0) = x1 (ix3 b 0 0) :=
    congrArg x1 (by
      funext i
      match i with
      | 0 => exact Fin.ext (show 0 + 1 * b.val = b.val by omega)
      | 1 => rfl
      | 2 => rfl)
  refine View.allAt_cons_unit _ _ _ _ _ ?_ (View.allAt_cons_unit _ _ _ _ _ ?_ (View.allAt_cons_unit _ _ _ _ _ ?_ (View.allAt_nil _ _)))
  · intro y hy
    obtain ⟨rfl, ha⟩ := place b a g 2 y hy
    obtain rfl : a = 2 := Fin.ext ha
    refine (out2 _ _ _ _ b g).trans ?_
    rw [funext hc, hl]
    exact congrFun (hc _) 2
  · intro y hy
    obtain ⟨rfl, ha⟩ := place b a g 1 y hy
    obtain rfl : a = 1 := Fin.ext ha
    refine (out1 _ _ _ _ b g).trans ?_
    rw [funext hc, hl]
    exact congrFun (hc _) 1
  · intro y hy
    obtain ⟨rfl, ha⟩ := place b a g 0 y hy
    obtain rfl : a = 0 := Fin.ext ha
    refine (out0 _ _ _ _ b g).trans ?_
    rw [funext hc, hl]
    exact congrFun (hc _) 0

end Cert.Proof.FarthestKernel
-- ==== Proof.NearestKernel.lean ====
module

public import proofs.«01_k».proof.Proof.FarthestKernel
public import Idealize.ShloMosaic.Lib.Pipeline.Value

@[expose] public section
set_option maxRecDepth 16384
noncomputable section
namespace Cert.Proof.NearestKernel
open Idealize.ShloMosaic Cert.KernelIdeal Cert.KernelIdeal.Gen Idealize.ShloMosaic.Tactic
open Cert.Proof.Select Cert.Proof.Sampling Cert.Proof.FarthestKernel

/-! ## One round, as operations on whole arrays -/

/-- The mask of each row's least element. -/
def least (D : FVec Ideal S8x52x2048 .f32) : IVec S8x52x2048 1 :=
  cmpi .eq (iota .tc S8x52x2048 32 [2] iota_S8x52x2048_d2_w32)
    (broadcastTo S8x52x2048 (shapeCast S8x52x1 (reduceIndex .argMin 2 S8x52 D reduces_S8x52x2048_S8x52) shapeCasts_S8x52_S8x52x1)
      broadcasts_S8x52x1_S8x52x2048)

/-- The distances with each row's least one raised to infinity. -/
def lift (D : FVec Ideal S8x52x2048 .f32) : FVec Ideal S8x52x2048 .f32 :=
  select (least D) (broadcast S8x52x2048 (Scalar.ofBits .f32 0x7F800000#32)) D

/-- The distances that `k` rounds leave. -/
def remain (D : FVec Ideal S8x52x2048 .f32) : ℕ → FVec Ideal S8x52x2048 .f32
  | 0 => D
  | k + 1 => lift (remain D k)

/-- One coordinate of the points that a mask names. -/
def entry (V : FVec Ideal S8x1x2048 .f32) (M : IVec S8x52x2048 1) : FVec Ideal S8x52x1 .f32 :=
  shapeCast S8x52x1 (multiReduction .add [2] S8x52
    (select M (broadcastTo S8x52x2048 (shapeCast S8x1x2048 V shapeCasts_S8x1x2048_S8x1x2048) broadcasts_S8x1x2048_S8x52x2048)
      (broadcast S8x52x2048 (Scalar.ofBits .f32 0x00000000#32)))
    0x00000000#32 reduces_S8x52x2048_S8x52 (.inl rfl) rfl) shapeCasts_S8x52_S8x52x1

/-- The points that a mask names, relative to their centres. -/
def relative (V1 V3 V5 : FVec Ideal S8x1x2048 .f32) (C1 C3 C5 : FVec Ideal S8x52x1 .f32) (M : IVec S8x52x2048 1) :
    FVec Ideal S8x52x3 .f32 :=
  concatenate S8x52x3 2 [⟨S8x52x1, subf (entry V1 M) C1⟩, ⟨S8x52x1, subf (entry V3 M) C3⟩, ⟨S8x52x1, subf (entry V5 M) C5⟩]
    concatenates_S8x52x1_S8x52x1_S8x52x1_S8x52x3_d2

/-- The same as one member of the groups. -/
def slot (V1 V3 V5 : FVec Ideal S8x1x2048 .f32) (C1 C3 C5 : FVec Ideal S8x52x1 .f32) (M : IVec S8x52x2048 1) :
    FVec Ideal S8x52x1x3 .f32 :=
  shapeCast S8x52x1x3 (relative V1 V3 V5 C1 C3 C5 M) shapeCasts_S8x52x3_S8x52x1x3

variable (x0 : Vec Ideal S8x3x2048 .f32) (x1 : Vec Ideal S8x3x128 .f32) (x2 : Vec Ideal S8x52x128 .f32) (x3 : Vec Ideal S8x1x1 .i32)

/-- The distances before the first round. -/
def start : FVec Ideal S8x52x2048 .f32 :=
  k1_pay13 (k1_pay132 x0 x1 x2 x3) (k1_pay133 x0 x1 x2 x3) (k1_pay134 x0 x1 x2 x3) (View.ld x3 r1_7)

/-- Member `k` of the groups. -/
def nth (k : ℕ) : FVec Ideal S8x52x1x3 .f32 :=
  slot (k1_pay126 x0 x1 x2 x3) (k1_pay127 x0 x1 x2 x3) (k1_pay128 x0 x1 x2 x3) (k1_pay129 x0 x1 x2 x3) (k1_pay130 x0 x1 x2 x3)
    (k1_pay131 x0 x1 x2 x3) (least (remain (start x0 x1 x2 x3) k))

/-! ## The rounds of the kernel are these rounds -/

/-- The shapes of 32 members lie side by side. -/
theorem joins : Shape.Concatenates ((List.ofFn fun k : Fin 32 => (⟨S8x52x1x3, nth x0 x1 x2 x3 k.val⟩ : (s : Shape) × (s.Idx → Ideal .f32))).map (·.1)) S8x52x32x3 2 :=
  concatenates_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x1x3_S8x52x32x3_d2

/-- What the kernel stores: the members of the groups, one after the other. -/
theorem stored : out1_4 x0 x1 x2 x3 = View.canon [⟨r1_8, concatenate S8x52x32x3 2
    (List.ofFn fun k : Fin 32 => (⟨S8x52x1x3, nth x0 x1 x2 x3 k.val⟩ : (s : Shape) × (s.Idx → Ideal .f32))) (joins x0 x1 x2 x3)⟩] := by
  unfold out1_4
  rfl

/-! ## Elements -/

/-- The mask marks the first least element of a row. -/
theorem least_eq (D : FVec Ideal S8x52x2048 .f32) (b : Fin 8) (u : Fin 52) (n : Fin 2048) :
    least D (ix3 b u n)
      = IntOp.cmpi .eq (BitVec.ofNat 32 n.val) (BitVec.ofNat 32 (firstMin fun n => D (ix3 b u n)).val) := by
  pointwise [least]
  exact congrArg (IntOp.cmpi .eq (BitVec.ofNat 32 n.val))
    (reduceIndex_min (n := 2048) 2 reduces_S8x52x2048_S8x52 D (ix2 b u) (fun n => ix3 b u n)
      (fun i => Shape.Reduces.fiber_r3_a2 _ _ _) (fun _ => rfl))

/-- The distances that `k` rounds leave, element by element. -/
theorem remain_eq (D : FVec Ideal S8x52x2048 .f32) (b : Fin 8) (u : Fin 52) (k : ℕ) (n : Fin 2048) :
    remain D k (ix3 b u n) = left (fun n => D (ix3 b u n)) k n := by
  induction k generalizing n with
  | zero => rfl
  | succ k ih =>
    show lift (remain D k) (ix3 b u n) = if n = firstMin (left (fun n => D (ix3 b u n)) k) then ⊤ else left (fun n => D (ix3 b u n)) k n
    pointwise [lift]
    have h : (fun n => remain D k (ix3 b u n)) = left (fun n => D (ix3 b u n)) k := funext ih
    rw [least_eq, h, ih, top_bits, select_word (by have := n.isLt; omega) (by have := (firstMin (left (fun n => D (ix3 b u n)) k)).isLt; omega)]
    simp only [Fin.ext_iff]

/-- The mask of round `k` names the point picked in it. -/
theorem mask_eq (D : FVec Ideal S8x52x2048 .f32) (b : Fin 8) (u : Fin 52) (k : ℕ) (n : Fin 2048) :
    least (remain D k) (ix3 b u n)
      = IntOp.cmpi .eq (BitVec.ofNat 32 n.val) (BitVec.ofNat 32 (pick (fun n => D (ix3 b u n)) k).val) := by
  rw [least_eq]
  have h : (fun n => remain D k (ix3 b u n)) = left (fun n => D (ix3 b u n)) k := funext (remain_eq D b u k)
  rw [h]; rfl

/-- The coordinate of the one point that a mask marks. -/
theorem entry_eq (V : FVec Ideal S8x1x2048 .f32) (M : IVec S8x52x2048 1) (b : Fin 8) (u : Fin 52) (p : Fin 2048)
    (hM : ∀ n, M (ix3 b u n) = IntOp.cmpi .eq (BitVec.ofNat 32 n.val) (BitVec.ofNat 32 p.val)) :
    entry V M (ix3 b u 0) = V (ix3 b 0 p) := by
  pointwise [entry]
  simp only [hM]
  exact sum_kept (by norm_num) (fun n => V (ix3 b 0 n)) p

/-- The centre of a group: its sampled point, taken by the weights of the group. -/
def centre (x1 : Vec Ideal S8x3x128 .f32) (x2 : Vec Ideal S8x52x128 .f32) (b : Fin 8) (u : Fin 52) (a : Fin 3) : EReal :=
  ∑ g : Fin 128, x2 (ix3 b u g) * x1 (ix3 b a g)

/-- The three coordinate rows. -/
theorem row_eq (b : Fin 8) (n : Fin 2048) : k1_pay126 x0 x1 x2 x3 (ix3 b 0 n) = x0 (ix3 b 0 n) ∧ k1_pay127 x0 x1 x2 x3 (ix3 b 0 n) = x0 (ix3 b 1 n)
    ∧ k1_pay128 x0 x1 x2 x3 (ix3 b 0 n) = x0 (ix3 b 2 n) := by
  refine ⟨?_, ?_, ?_⟩ <;> · pointwise [k1_pay126, k1_pay127, k1_pay128, k1_pay3, k1_pay4, k1_pay5]

/-- The three coordinates of the centres. -/
theorem centre_eq (b : Fin 8) (u : Fin 52) : k1_pay129 x0 x1 x2 x3 (ix3 b u 0) = centre x1 x2 b u 0 ∧ k1_pay130 x0 x1 x2 x3 (ix3 b u 0) = centre x1 x2 b u 1
    ∧ k1_pay131 x0 x1 x2 x3 (ix3 b u 0) = centre x1 x2 b u 2 := by
  refine ⟨?_, ?_, ?_⟩ <;>
  · pointwise [k1_pay129, k1_pay130, k1_pay131, k1_pay7, k1_pay8, k1_pay9, k1_pay6]
    rfl

/-- The distances before the first round. -/
theorem start_eq (b : Fin 8) (u : Fin 52) (n : Fin 2048) :
    start x0 x1 x2 x3 (ix3 b u n) = around (rows x0 b) (x3 (ix3 b 0 0)) (centre x1 x2 b u) n := by
  have e0 : k1_pay134 x0 x1 x2 x3 (ix3 b u n)
      = (k1_pay126 x0 x1 x2 x3 (ix3 b 0 n) - k1_pay129 x0 x1 x2 x3 (ix3 b u 0)) * (k1_pay126 x0 x1 x2 x3 (ix3 b 0 n) - k1_pay129 x0 x1 x2 x3 (ix3 b u 0)) := by
    unfold k1_pay134 k1_pay126 k1_pay129
    pointwise [k1_pay12]
  have e1 : k1_pay132 x0 x1 x2 x3 (ix3 b u n) = k1_pay127 x0 x1 x2 x3 (ix3 b 0 n) - k1_pay130 x0 x1 x2 x3 (ix3 b u 0) := by
    unfold k1_pay132 k1_pay127 k1_pay130
    pointwise [k1_pay10]
  have e2 : k1_pay133 x0 x1 x2 x3 (ix3 b u n) = k1_pay128 x0 x1 x2 x3 (ix3 b 0 n) - k1_pay131 x0 x1 x2 x3 (ix3 b u 0) := by
    unfold k1_pay133 k1_pay128 k1_pay131
    pointwise [k1_pay11]
  unfold start
  pointwise [k1_pay13]
  obtain ⟨r0, r1, r2⟩ := row_eq x0 x1 x2 x3 b n
  obtain ⟨c0, c1, c2⟩ := centre_eq x0 x1 x2 x3 b u
  rw [e0, e1, e2, r0, r1, r2, c0, c1, c2, top_bits]
  rfl

/-- Member `k` of a group. -/
theorem nth_eq (k : ℕ) (b : Fin 8) (u : Fin 52) (a : Fin 3) :
    nth x0 x1 x2 x3 k (ix4 b u 0 a)
      = rows x0 b (pick (around (rows x0 b) (x3 (ix3 b 0 0)) (centre x1 x2 b u)) k) a - centre x1 x2 b u a := by
  have hd : (fun n => start x0 x1 x2 x3 (ix3 b u n)) = around (rows x0 b) (x3 (ix3 b 0 0)) (centre x1 x2 b u) :=
    funext (start_eq x0 x1 x2 x3 b u)
  have hM := mask_eq (start x0 x1 x2 x3) b u k
  rw [hd] at hM
  unfold nth
  match a with
  | 0 => pointwise [slot, relative]; rw [entry_eq _ _ b u _ hM, (row_eq x0 x1 x2 x3 b _).1, (centre_eq x0 x1 x2 x3 b u).1]; rfl
  | 1 => pointwise [slot, relative]; rw [entry_eq _ _ b u _ hM, (row_eq x0 x1 x2 x3 b _).2.1, (centre_eq x0 x1 x2 x3 b u).2.1]; rfl
  | 2 => pointwise [slot, relative]; rw [entry_eq _ _ b u _ hM, (row_eq x0 x1 x2 x3 b _).2.2, (centre_eq x0 x1 x2 x3 b u).2.2]; rfl

/-- The grouping kernel's result: the nearest points of every centre, relative to it. -/
theorem result (b : Fin 8) (u : Fin 52) (k : Fin 32) (a : Fin 3) :
    out1_4 x0 x1 x2 x3 (ix4 b u k a)
      = rows x0 b (pick (around (rows x0 b) (x3 (ix3 b 0 0)) (centre x1 x2 b u)) k.val) a - centre x1 x2 b u a := by
  rw [stored]
  refine View.canon_eq_of_allAt _ _ _ (cover1_4 _ _) ?_
  refine View.allAt_cons_unit _ _ _ _ _ ?_ (View.allAt_nil _ _)
  intro y hy
  have hyy : y = ix4 b u k a := by
    funext i
    apply Fin.ext
    match i with
    | 0 => have : b.val = 0 + (y 0).val := hy 0; show (y 0).val = b.val; omega
    | 1 => have : u.val = 0 + (y 1).val := hy 1; show (y 1).val = u.val; omega
    | 2 => have : k.val = 0 + (y 2).val := hy 2; show (y 2).val = k.val; omega
    | 3 => have : a.val = 0 + (y 3).val := hy 3; show (y 3).val = a.val; omega
  rw [hyy]
  refine (concatenate_ofFn_unit_apply (t := S8x52x32x3) (s₁ := S8x52x1x3) 2 (fun k : Fin 32 => nth x0 x1 x2 x3 k.val) _ rfl rfl (ix4 b u k a) k rfl (ix4 b u 0 a) ?_).trans
    (nth_eq x0 x1 x2 x3 k.val b u a)
  intro i hi
  match i with
  | 0 => rfl
  | 1 => rfl
  | 2 => exact absurd rfl hi
  | 3 => rfl

end Cert.Proof.NearestKernel
-- ==== Proof.TokenSpec.lean ====
/-
  What the token network computes, as mathematics on extended reals: each group has 32 points, each point goes through two
  layers, the group's feature is the maximum over its points, point and group feature together go through two more layers,
  and the token is the maximum over the points. No program appears here.
-/
module

public import Idealize.ShloMosaic.Lib.Pointwise

@[expose] public section

noncomputable section

namespace Cert.Proof.TokenSpec

open Idealize.ShloMosaic
open scoped BigOperators

/-- The largest of 32 values, starting from the float minus infinity. -/
def top (f : Fin 32 → EReal) : EReal := Finset.univ.fold max (Ideal.ofBits .f32 0xFF800000#32) f

/-- The first hidden layer of one point. -/
def hidden (W1 : Fin 3 → Fin 128 → EReal) (b1 : Fin 128 → EReal) (x : Fin 3 → EReal) (j : Fin 128) : EReal :=
  max (∑ k, x k * W1 k j + b1 j) 0

/-- A point's feature. -/
def feature (W1 : Fin 3 → Fin 128 → EReal) (b1 : Fin 128 → EReal) (W2 : Fin 128 → Fin 256 → EReal) (b2 : Fin 256 → EReal)
    (x : Fin 3 → EReal) (j : Fin 256) : EReal :=
  ∑ k, hidden W1 b1 x k * W2 k j + b2 j

/-- The third layer, of a point's feature `p` (the weights' first 256 rows) beside its group's feature `g` (the last 256). -/
def joined (W3 : Fin 512 → Fin 512 → EReal) (b3 : Fin 512 → EReal) (p g : Fin 256 → EReal) (j : Fin 512) : EReal :=
  max (∑ k : Fin 256, p k * W3 ⟨k, by omega⟩ j + ∑ k : Fin 256, g k * W3 ⟨256 + k, by omega⟩ j + b3 j) 0

/-- A group's token. -/
def token (W1 : Fin 3 → Fin 128 → EReal) (b1 : Fin 128 → EReal) (W2 : Fin 128 → Fin 256 → EReal) (b2 : Fin 256 → EReal)
    (W3 : Fin 512 → Fin 512 → EReal) (b3 : Fin 512 → EReal) (W4 : Fin 512 → Fin 384 → EReal) (b4 : Fin 384 → EReal)
    (x : Fin 32 → Fin 3 → EReal) (j : Fin 384) : EReal :=
  top fun r => ∑ k, joined W3 b3 (feature W1 b1 W2 b2 (x r)) (fun c => top fun s => feature W1 b1 W2 b2 (x s) c) k * W4 k j + b4 j

end Cert.Proof.TokenSpec

end
-- ==== Proof.KernelValue.lean ====
module

public import proofs.«01_k».proof.Proof.KernelRun
public import proofs.«01_k».proof.Proof.NearestKernel
public import proofs.«01_k».proof.Proof.TokenSpec
public import Idealize.ShloMosaic.Lib.Pipeline.ValueKit
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section
set_option maxRecDepth 16384
noncomputable section
namespace Cert.Proof.KernelValue
open Idealize.ShloMosaic Idealize.ShloMosaic.TcCoe Idealize.ShloMosaic.Tactic Cert.KernelIdeal Cert.KernelIdeal.Gen
open Idealize.ShloMosaic.Pipeline (Dat)
open Idealize.ShloMosaic.StableHlo
open Cert.Proof.Select Cert.Proof.Sampling
open Cert.Proof.FarthestKernel (rows)
open Cert.Proof.NearestKernel (centre)

variable (m : (ℓ : Loc nD τ sig) → Buf (Elt Ideal) ℓ) (ρ : Dev nD → PrngReg) (c : Dev nD)

/-- The points of cloud `b`. -/
def cloud (b : Fin 8) (n : Fin 2048) (a : Fin 3) : EReal := m ((c.tc : Thread nD τ).loc main_arg0) (ix3 b n a)

/-- The length of cloud `b`. -/
def size (b : Fin 8) : BitVec 32 := m ((c.tc : Thread nD τ).loc main_arg1) (ix1 b)

/-- The word naming visible group `u` of cloud `b`. -/
def word (b : Fin 8) (u : Fin 52) : BitVec 32 := lit0 (S8x128.rowMajor (ix2 b ⟨76 + u.val, by omega⟩))

/-! ## Before the first call -/

/-- The first call's points. -/
theorem points_at (b : Fin 8) (a : Fin 3) (n : Fin 2048) : W3 m ρ c (Proc.devRef .tc main_v2) (ix3 b a n) = cloud m c b n a := by
  unfold W3 W2 W1
  after_reads_simp
  pointwise
  rfl

/-- Its lengths. -/
theorem lengths_at (b : Fin 8) : W3 m ρ c (Proc.devRef .tc main_v3) (ix3 b 0 0) = size m c b := by
  unfold W3 W2 W1
  after_reads_simp
  pointwise
  rfl

/-- The rows that mark the visible groups. -/
theorem choice_at (b : Fin 8) (u : Fin 52) (g : Fin 128) : W3 m ρ c (Proc.devRef .tc main_v1) (ix3 b u g)
    = FloatOps.uitofp (F := Ideal) (w := 1) .f32 (IntOp.cmpi .eq (word b u) (BitVec.ofNat 32 g.val)) := by
  unfold W3 W2 W1
  after_reads_simp
  show uitofp (F := Ideal) .f32 (cmpi .eq (broadcastInDim S8x52x128 ![0, 1, 2] bcast_S8x52x1_S8x52x128_0_1_2
      (broadcastInDim S8x52x1 ![0, 1] bcast_S8x52_S8x52x1_0_1
        (extractStridedSlice S8x52 ![0, 76] (fun i => lit0 (S8x128.rowMajor i)) slices_S8x128_S8x52_0_76)))
    (broadcastInDim S8x52x128 ![0, 1, 2] bcast_S1x1x128_S8x52x128_0_1_2 (iotaInDim S1x1x128 32 2))) (ix3 b u g) = _
  pointwise
  rfl

/-- A sum of the entries, each against the one that marks position `i`, is the entry at `i`. -/
theorem sum_selected {N : ℕ} (hN : N ≤ 2 ^ 31) (f : Fin N → EReal) (i : Fin N) :
    (∑ n, (FloatOps.uitofp .f32 (IntOp.cmpi .eq (BitVec.ofNat 32 i.val) (BitVec.ofNat 32 n.val)) : Ideal .f32) * f n) = f i := by
  have : ∀ n : Fin N, (FloatOps.uitofp .f32 (IntOp.cmpi .eq (BitVec.ofNat 32 i.val) (BitVec.ofNat 32 n.val)) : Ideal .f32)
      = if n = i then (1 : EReal) else 0 := fun n => by
    rw [word_eq (lt_of_lt_of_le i.isLt hN) (lt_of_lt_of_le n.isLt hN)]
    by_cases h : n = i
    · rw [if_pos (congrArg Fin.val h.symm), if_pos h]
      show (((1#1 : BitVec 1).toNat : ℝ) : EReal) = 1
      simp
    · rw [if_neg (fun e => h (Fin.ext e.symm)), if_neg h]
      show (((0#1 : BitVec 1).toNat : ℝ) : EReal) = 0
      simp
  simp only [this]
  simp

/-! ## The first call: the sampled points -/

/-- Which blocks the first call reads and writes. -/
theorem index0 : ∀ t : Fin cfg0.N, win0_0.index t = ![0, 0, 0] ∧ win0_1.index t = ![0, 0, 0] ∧ win0_2.index t = ![0, 0, 0] :=
  (by decide +kernel : ∀ t : Fin grid0.N, _)

/-- Which blocks the second call reads and writes. -/
theorem index1 : ∀ t : Fin cfg1.N, win1_0.index t = ![0, 0, 0] ∧ win1_1.index t = ![0, 0, 0] ∧ win1_2.index t = ![0, 0, 0]
    ∧ win1_3.index t = ![0, 0, 0] ∧ win1_4.index t = ![0, 0, 0, 0] :=
  (by decide +kernel : ∀ t : Fin grid1.N, _)

/-- The sampled points' coordinates. -/
def sampledPoints : FVec Ideal S8x3x128 .f32 := fun i => cloud m c (i 0) (sampled (cloud m c (i 0)) (size m c (i 0)) (i 2).val) (i 1)

/-- What the first call leaves. -/
theorem sampled_at : W4 m ρ c (Proc.devRef .tc main_v4) = sampledPoints m c := by
  refine (hF0 m ρ c 2).symm.trans ?_
  refine (dat0 (V3 m ρ) c).arrAt_eq_of_covers 2 _ (by decide +kernel) fun t _ y => ?_
  blk_simp
  rw [after0_2]
  unfold outsAt0
  obtain ⟨b, a, g, rfl⟩ : ∃ b a g, y = ix3 b a g := ⟨y 0, y 1, y 2, by rw [ix3_eta]⟩
  have hx : ∀ b a n, iblk0 (V3 m ρ) c 0 t (ix3 b a n) = W3 m ρ c (Proc.devRef .tc main_v2) (ix3 b a n) := fun b a n => by
    blk_point [iblk0, V3, index0 t]
  have hl : ∀ b, iblk0 (V3 m ρ) c 1 t (ix3 b 0 0) = W3 m ρ c (Proc.devRef .tc main_v3) (ix3 b 0 0) := fun b => by
    blk_point [iblk0, V3, index0 t]
  have he : ∀ G : FVec Ideal S8x3x128 .f32, G ((win0_2.blk t).view.emb (ix3 b a g)) = G (ix3 b a g) := fun G => by
    blk_point [index0 t]
  have hr : rows (iblk0 (V3 m ρ) c 0 t) b = cloud m c b := by
    funext n a
    exact (hx b a n).trans (points_at m ρ c b a n)
  rw [FarthestKernel.result, hr, hl, lengths_at, he (sampledPoints m c)]
  rfl

/-! ## The second call: the nearest points -/

/-- The groups of the visible sampled points. -/
def groups (vis : Fin 8 → Fin 52 → Fin 128) : FVec Ideal S8x52x32x3 .f32 := fun i =>
  member (cloud m c (i 0)) (size m c (i 0)) (vis (i 0) (i 1)).val (i 2).val (i 3)

variable {vis : Fin 8 → Fin 52 → Fin 128} (hv : ∀ b u, word b u = BitVec.ofNat 32 (vis b u).val)
include hv

/-- What the second call leaves. -/
theorem groups_at : W5 m ρ c (Proc.devRef .tc main_v5) = groups m c vis := by
  refine (hF1 m ρ c 4).symm.trans ?_
  refine (dat1 (V4 m ρ) c).arrAt_eq_of_covers 4 _ (by decide +kernel) fun t _ y => ?_
  blk_simp
  rw [after1_4]
  obtain ⟨b, u, k, a, rfl⟩ : ∃ b u k a, y = ix4 b u k a := ⟨y 0, y 1, y 2, y 3, by rw [ix4_eta]⟩
  have hx : ∀ b a n, iblk1 (V4 m ρ) c 0 t (ix3 b a n) = cloud m c b n a := fun b a n => by
    rw [← points_at m ρ c b a n, ← W4_of m ρ c main_v2 (by decide +kernel)]
    blk_point [iblk1, V4, index1 t]
  have hl : ∀ b, iblk1 (V4 m ρ) c 3 t (ix3 b 0 0) = size m c b := fun b => by
    rw [← lengths_at m ρ c b, ← W4_of m ρ c main_v3 (by decide +kernel)]
    blk_point [iblk1, V4, index1 t]
  have hs : ∀ b u g, iblk1 (V4 m ρ) c 2 t (ix3 b u g) = FloatOps.uitofp (F := Ideal) (w := 1) .f32 (IntOp.cmpi .eq (word b u) (BitVec.ofNat 32 g.val)) := fun b u g => by
    rw [← choice_at m ρ c b u g, ← W4_of m ρ c main_v1 (by decide +kernel)]
    blk_point [iblk1, V4, index1 t]
  have hc : ∀ b a g, iblk1 (V4 m ρ) c 1 t (ix3 b a g) = sampledPoints m c (ix3 b a g) := fun b a g => by
    rw [← sampled_at m ρ c]
    blk_point [iblk1, V4, index1 t]
  have he : ∀ G : FVec Ideal S8x52x32x3 .f32, G ((win1_4.blk t).view.emb (ix4 b u k a)) = G (ix4 b u k a) := fun G => by
    blk_point [index1 t]
  have hr : rows (iblk1 (V4 m ρ) c 0 t) b = cloud m c b := by
    funext n a
    exact hx b a n
  have hce : centre (iblk1 (V4 m ρ) c 1 t) (iblk1 (V4 m ρ) c 2 t) b u = cloud m c b (sampled (cloud m c b) (size m c b) (vis b u).val) := by
    funext a
    unfold centre
    simp only [hs, hc, hv]
    rw [sum_selected (by decide)]
    rfl
  rw [NearestKernel.result, hr, hl, hce, he (groups m c vis)]
  rfl

/-! ## The third call: the tokens -/

omit hv in
/-- Which blocks the third call reads and writes. -/
theorem index2 : ∀ t : Fin cfg2.N, win2_0.index t = ![t.val, 0, 0] ∧ win2_1.index t = ![0, 0] ∧ win2_2.index t = ![0, 0]
    ∧ win2_3.index t = ![0, 0] ∧ win2_4.index t = ![0, 0] ∧ win2_5.index t = ![0, 0] ∧ win2_6.index t = ![0, 0]
    ∧ win2_7.index t = ![0, 0] ∧ win2_8.index t = ![0, 0] ∧ win2_9.index t = ![0, 0] ∧ win2_10.index t = ![t.val, 0] :=
  (by decide +kernel : ∀ t : Fin grid2.N, _)

/-- The groups as the third call takes them. -/
theorem flat_at (t : Fin 416) (r : Fin 32) (a : Fin 3) : W6 m ρ c (Proc.devRef .tc main_v6) (ix3 t r a)
    = groups m c vis (ix4 ⟨t.val / 52, by omega⟩ ⟨t.val % 52, by omega⟩ r a) := by
  unfold W6
  after_reads_simp
  rw [groups_at m ρ c hv]
  pointwise

omit hv in
/-- The weights and biases as the third call takes them: the third layer's weights in two halves, the biases as rows. -/
theorem weights_at : (∀ j : Fin 128, W6 m ρ c (Proc.devRef .tc main_v7) (ix2 0 j) = m ((c.tc : Thread nD τ).loc main_arg3) (ix1 j))
    ∧ (∀ j : Fin 256, W6 m ρ c (Proc.devRef .tc main_v8) (ix2 0 j) = m ((c.tc : Thread nD τ).loc main_arg5) (ix1 j))
    ∧ (∀ (k : Fin 256) (j : Fin 512), W6 m ρ c (Proc.devRef .tc main_v9) (ix2 k j) = m ((c.tc : Thread nD τ).loc main_arg6) (ix2 ⟨k.val, by omega⟩ j))
    ∧ (∀ (k : Fin 256) (j : Fin 512), W6 m ρ c (Proc.devRef .tc main_v10) (ix2 k j) = m ((c.tc : Thread nD τ).loc main_arg6) (ix2 ⟨256 + k.val, by omega⟩ j))
    ∧ (∀ j : Fin 512, W6 m ρ c (Proc.devRef .tc main_v11) (ix2 0 j) = m ((c.tc : Thread nD τ).loc main_arg7) (ix1 j))
    ∧ ∀ j : Fin 384, W6 m ρ c (Proc.devRef .tc main_v12) (ix2 0 j) = m ((c.tc : Thread nD τ).loc main_arg9) (ix1 j) := by
  have h3 := W5_args m ρ c main_arg3 (by decide)
  have h5 := W5_args m ρ c main_arg5 (by decide)
  have h6 := W5_args m ρ c main_arg6 (by decide)
  have h7 := W5_args m ρ c main_arg7 (by decide)
  have h9 := W5_args m ρ c main_arg9 (by decide)
  refine ⟨?_, ?_, ?_, ?_, ?_, ?_⟩ <;>
  · intros
    unfold W6
    after_reads_simp
    first | rw [h3] | rw [h5] | rw [h6] | rw [h7] | rw [h9]
    pointwise

/-- The token, of the argument arrays' weights, of a group of points. -/
def tokenOf (x : Fin 32 → Fin 3 → EReal) (j : Fin 384) : EReal :=
  TokenSpec.token (fun i j => m ((c.tc : Thread nD τ).loc main_arg2) (ix2 i j)) (fun j => m ((c.tc : Thread nD τ).loc main_arg3) (ix1 j))
    (fun i j => m ((c.tc : Thread nD τ).loc main_arg4) (ix2 i j)) (fun j => m ((c.tc : Thread nD τ).loc main_arg5) (ix1 j))
    (fun i j => m ((c.tc : Thread nD τ).loc main_arg6) (ix2 i j)) (fun j => m ((c.tc : Thread nD τ).loc main_arg7) (ix1 j))
    (fun i j => m ((c.tc : Thread nD τ).loc main_arg8) (ix2 i j)) (fun j => m ((c.tc : Thread nD τ).loc main_arg9) (ix1 j)) x j

/-- The tokens of all the flattened groups. -/
def tokens (vis : Fin 8 → Fin 52 → Fin 128) : FVec Ideal S416x384 .f32 := fun i =>
  tokenOf m c (fun r a => groups m c vis (ix4 ⟨(i 0).val / 52, by have h : (i 0).val < 416 := (i 0).isLt; omega⟩ ⟨(i 0).val % 52, by omega⟩ r a)) (i 1)

/-- What the third call leaves. -/
theorem tokens_at : W7 m ρ c (Proc.devRef .tc main_v13) = tokens m c vis := by
  refine (hF2 m ρ c 10).symm.trans ?_
  refine (dat2 (V6 m ρ) c).arrAt_eq_of_covers 10 _ (by decide +kernel) fun t _ y => ?_
  blk_simp
  rw [after2_10]; frame_out
  obtain ⟨q, j, rfl⟩ : ∃ q j, y = ix2 q j := ⟨y 0, y 1, by rw [ix2_eta]⟩
  have ht : t.val < 13 := t.isLt
  obtain ⟨w7, w8, w9, w10, w11, w12⟩ := weights_at m ρ c
  have h0 : ∀ q r a, iblk2 (V6 m ρ) c 0 t (ix3 q r a) = W6 m ρ c (Proc.devRef .tc main_v6) (ix3 ⟨t.val * 32 + q.val, by omega⟩ r a) := fun q r a => by
    blk_point [iblk2, V6, index2 t]
  have h1 : ∀ k j, iblk2 (V6 m ρ) c 1 t (ix2 k j) = m ((c.tc : Thread nD τ).loc main_arg2) (ix2 k j) := fun k j => by
    rw [← W6_args m ρ c main_arg2 (by decide)]
    blk_point [iblk2, V6, index2 t]
  have h2 : ∀ j, iblk2 (V6 m ρ) c 2 t (ix2 0 j) = m ((c.tc : Thread nD τ).loc main_arg3) (ix1 j) := fun j => by
    rw [← w7]
    blk_point [iblk2, V6, index2 t]
  have h3 : ∀ k j, iblk2 (V6 m ρ) c 3 t (ix2 k j) = m ((c.tc : Thread nD τ).loc main_arg4) (ix2 k j) := fun k j => by
    rw [← W6_args m ρ c main_arg4 (by decide)]
    blk_point [iblk2, V6, index2 t]
  have h4 : ∀ j, iblk2 (V6 m ρ) c 4 t (ix2 0 j) = m ((c.tc : Thread nD τ).loc main_arg5) (ix1 j) := fun j => by
    rw [← w8]
    blk_point [iblk2, V6, index2 t]
  have h5 : ∀ (k : Fin 256) j, iblk2 (V6 m ρ) c 5 t (ix2 k j) = m ((c.tc : Thread nD τ).loc main_arg6) (ix2 ⟨k.val, by omega⟩ j) := fun k j => by
    rw [← w9]
    blk_point [iblk2, V6, index2 t]
  have h6 : ∀ (k : Fin 256) j, iblk2 (V6 m ρ) c 6 t (ix2 k j) = m ((c.tc : Thread nD τ).loc main_arg6) (ix2 ⟨256 + k.val, by omega⟩ j) := fun k j => by
    rw [← w10]
    blk_point [iblk2, V6, index2 t]
  have h7 : ∀ j, iblk2 (V6 m ρ) c 7 t (ix2 0 j) = m ((c.tc : Thread nD τ).loc main_arg7) (ix1 j) := fun j => by
    rw [← w11]
    blk_point [iblk2, V6, index2 t]
  have h8 : ∀ k j, iblk2 (V6 m ρ) c 8 t (ix2 k j) = m ((c.tc : Thread nD τ).loc main_arg8) (ix2 k j) := fun k j => by
    rw [← W6_args m ρ c main_arg8 (by decide)]
    blk_point [iblk2, V6, index2 t]
  have h9 : ∀ j, iblk2 (V6 m ρ) c 9 t (ix2 0 j) = m ((c.tc : Thread nD τ).loc main_arg9) (ix1 j) := fun j => by
    rw [← w12]
    blk_point [iblk2, V6, index2 t]
  have he : ∀ G : FVec Ideal S416x384 .f32, G ((win2_10.blk t).view.emb (ix2 q j)) = G (ix2 ⟨t.val * 32 + q.val, by omega⟩ j) := fun G => by
    blk_point [index2 t]
  rw [he (tokens m c vis)]
  unfold tokens tokenOf TokenSpec.token TokenSpec.top TokenSpec.joined TokenSpec.feature TokenSpec.hidden
  pointwise [k2_pay1, k2_pay2]
  simp only [h0, h1, h2, h3, h4, h5, h6, h7, h8, h9, flat_at m ρ c hv, add_assoc]

/-! ## The result -/

/-- What the kernel leaves in its result: the tokens of the visible groups. -/
theorem result (b : Fin 8) (u : Fin 52) (j : Fin 384) : W8 m ρ c (Proc.devRef .tc main_v14) (ix3 b u j)
    = tokenOf m c (fun r a => member (cloud m c b) (size m c b) (vis b u).val r.val a) j := by
  unfold W8
  after_reads_simp
  rw [tokens_at m ρ c hv]
  pointwise
  unfold tokens groups
  have h1 : (⟨(b.val * 52 + u.val) / 52, by omega⟩ : Fin 8) = b := Fin.ext (by simp only; omega)
  have h2 : (⟨(b.val * 52 + u.val) % 52, by omega⟩ : Fin 52) = u := Fin.ext (by simp only; omega)
  simp only [ix2, ix4]
  rw [h1, h2]

end Cert.Proof.KernelValue
-- ==== Proof.ReferenceRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference's run: its operations before, in and after the sampling loop, and the state every execution ends in. -/

@[expose] public section
set_option maxRecDepth 4096

noncomputable section
namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations -/

/-- The operations before the loop. -/
def hostOps0 : List (HloOp τ sig (Elt F)) :=
  [ StableHlo.nullary main_c (fun i => lit0 (S8x52.rowMajor i)),
    StableHlo.nullary main_v0 (iotaInDim S2048 32 0),
    StableHlo.unary main_v0 main_v1 (broadcastInDim S1x2048 ![1] bcast_S2048_S1x2048_1 : (⟨S2048, .i32⟩ : BufTy).Contents (Elt F) → (⟨S1x2048, .i32⟩ : BufTy).Contents (Elt F)),
    StableHlo.unary main_arg1 main_v2 (broadcastInDim S8x1 ![0] bcast_S8_S8x1_0 : (⟨S8, .i32⟩ : BufTy).Contents (Elt F) → (⟨S8x1, .i32⟩ : BufTy).Contents (Elt F)),
    StableHlo.unary main_v1 main_v3 (broadcastInDim S8x2048 ![0, 1] bcast_S1x2048_S8x2048_0_1 : (⟨S1x2048, .i32⟩ : BufTy).Contents (Elt F) → (⟨S8x2048, .i32⟩ : BufTy).Contents (Elt F)),
    StableHlo.unary main_v2 main_v4 (broadcastInDim S8x2048 ![0, 1] bcast_S8x1_S8x2048_0_1 : (⟨S8x1, .i32⟩ : BufTy).Contents (Elt F) → (⟨S8x2048, .i32⟩ : BufTy).Contents (Elt F)),
    StableHlo.binary main_v3 main_v4 main_v5 (cmpi .slt : (⟨S8x2048, .i32⟩ : BufTy).Contents (Elt F) → (⟨S8x2048, .i32⟩ : BufTy).Contents (Elt F) → (⟨S8x2048, .i1⟩ : BufTy).Contents (Elt F)),
    StableHlo.nullary main_cst (constant S_ .f32 0x7F800000#32),
    StableHlo.unary main_cst main_v6 (broadcastInDim S8x2048 ![] bcast_S_S8x2048 : (⟨S_, .f32⟩ : BufTy).Contents (Elt F) → (⟨S8x2048, .f32⟩ : BufTy).Contents (Elt F)),
    StableHlo.unary main_v6 main_v7 (Host.negf : (⟨S8x2048, .f32⟩ : BufTy).Contents (Elt F) → (⟨S8x2048, .f32⟩ : BufTy).Contents (Elt F)),
    StableHlo.ternary main_v5 main_v6 main_v7 main_v8 (select : (⟨S8x2048, .i1⟩ : BufTy).Contents (Elt F) → (⟨S8x2048, .f32⟩ : BufTy).Contents (Elt F) → (⟨S8x2048, .f32⟩ : BufTy).Contents (Elt F) → (⟨S8x2048, .f32⟩ : BufTy).Contents (Elt F)),
    StableHlo.nullary main_c_0 (constantI S_ 32 0#32),
    StableHlo.unary main_c_0 main_v9 (broadcastInDim S8x128 ![] bcast_S_S8x128 : (⟨S_, .i32⟩ : BufTy).Contents (Elt F) → (⟨S8x128, .i32⟩ : BufTy).Contents (Elt F)),
    StableHlo.nullary main_c_1 (constantI S_ 32 0#32),
    StableHlo.unary main_c_1 main_v10 (broadcastInDim S8 ![] bcast_S_S8 : (⟨S_, .i32⟩ : BufTy).Contents (Elt F) → (⟨S8, .i32⟩ : BufTy).Contents (Elt F)),
    StableHlo.nullary main_c_2 (constantI S_ 32 1#32),
    StableHlo.nullary main_c_3 (constantI S_ 32 0#32),
    StableHlo.unary main_arg0 main_v11_0 id,
    StableHlo.unary main_v6 main_v11_1 id,
    StableHlo.unary main_v5 main_v11_2 id,
    StableHlo.unary main_c_3 main_v11_3 id,
    StableHlo.unary main_c_2 main_v11_4 id,
    StableHlo.unary main_v8 main_v11_5 id,
    StableHlo.unary main_v9 main_v11_6 id,
    StableHlo.unary main_v10 main_v11_7 id ]

/-- What `hostOps0` writes. -/
abbrev hostOps0_W : List (Ref sig .tc) := [main_c, main_v0, main_v1, main_v2, main_v3, main_v4, main_v5, main_cst, main_v6, main_v7, main_v8, main_c_0, main_v9, main_c_1, main_v10, main_c_2, main_c_3, main_v11_0, main_v11_1, main_v11_2, main_v11_3, main_v11_4, main_v11_5, main_v11_6, main_v11_7]

/-- `hostOps0` writes nothing else. -/
theorem hostOps0_writes : (hostOps0 : List (HloOp τ sig (Elt F))).Forall fun op => op.writes ⊆ (hostOps0_W.map (Proc.devRef (τ := τ) .tc)).toFinset :=
  StableHlo.forall_writes_sub_of_map rfl

/-- The first stretch of the loop's body: the distances to the points sampled. -/
def while0Ops0 : List (HloOp τ sig (Elt F)) :=
  [ StableHlo.nullary main_while0b_c_29 (constantI S_ 32 1#32),
    StableHlo.binary main_v11_4 main_while0b_c_29 main_while0b_v98 (addi : (⟨S_, .i32⟩ : BufTy).Contents (Elt F) → (⟨S_, .i32⟩ : BufTy).Contents (Elt F) → (⟨S_, .i32⟩ : BufTy).Contents (Elt F)),
    StableHlo.unary main_v11_7 main_while0b_v99 (broadcastInDim S8x1 ![0] bcast_S8_S8x1_0 : (⟨S8, .i32⟩ : BufTy).Contents (Elt F) → (⟨S8x1, .i32⟩ : BufTy).Contents (Elt F)),
    StableHlo.nullary main_while0b_c_30 (constantI S_ 32 0#32),
    StableHlo.unary main_while0b_c_30 main_while0b_v100 (broadcastInDim S8x1 ![] bcast_S_S8x1 : (⟨S_, .i32⟩ : BufTy).Contents (Elt F) → (⟨S8x1, .i32⟩ : BufTy).Contents (Elt F)),
    StableHlo.binary main_while0b_v99 main_while0b_v100 main_while0b_v101 (cmpi .slt : (⟨S8x1, .i32⟩ : BufTy).Contents (Elt F) → (⟨S8x1, .i32⟩ : BufTy).Contents (Elt F) → (⟨S8x1, .i1⟩ : BufTy).Contents (Elt F)),
    StableHlo.nullary main_while0b_c_31 (constantI S_ 32 2048#32),
    StableHlo.unary main_while0b_c_31 main_while0b_v102 (broadcastInDim S8x1 ![] bcast_S_S8x1 : (⟨S_, .i32⟩ : BufTy).Contents (Elt F) → (⟨S8x1, .i32⟩ : BufTy).Contents (Elt F)),
    StableHlo.binary main_while0b_v99 main_while0b_v102 main_while0b_v103 (addi : (⟨S8x1, .i32⟩ : BufTy).Contents (Elt F) → (⟨S8x1, .i32⟩ : BufTy).Contents (Elt F) → (⟨S8x1, .i32⟩ : BufTy).Contents (Elt F)),
    StableHlo.ternary main_while0b_v101 main_while0b_v103 main_while0b_v99 main_while0b_v104 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.unary main_while0b_v104 main_while0b_v105 (broadcastInDim S8x1x1 ![0, 1] bcast_S8x1_S8x1x1_0_1 : (⟨S8x1, .i32⟩ : BufTy).Contents (Elt F) → (⟨S8x1x1, .i32⟩ : BufTy).Contents (Elt F)),
    StableHlo.binary main_v11_0 main_while0b_v105 main_while0b_v106 ((fun x i => Host.gather gather_S8x2048x3_S8x1x1_S8x1x3_2_1_0_0_1_2_113 x i) : (⟨S8x2048x3, .f32⟩ : BufTy).Contents (Elt F) → (⟨S8x1x1, .i32⟩ : BufTy).Contents (Elt F) → (⟨S8x1x3, .f32⟩ : BufTy).Contents (Elt F)),
    StableHlo.unary main_while0b_v106 main_while0b_v107 (broadcastInDim S8x2048x3 ![0, 1, 2] bcast_S8x1x3_S8x2048x3_0_1_2 : (⟨S8x1x3, .f32⟩ : BufTy).Contents (Elt F) → (⟨S8x2048x3, .f32⟩ : BufTy).Contents (Elt F)),
    StableHlo.binary main_v11_0 main_while0b_v107 main_while0b_v108 (subf : (⟨S8x2048x3, .f32⟩ : BufTy).Contents (Elt F) → (⟨S8x2048x3, .f32⟩ : BufTy).Contents (Elt F) → (⟨S8x2048x3, .f32⟩ : BufTy).Contents (Elt F)),
    StableHlo.binary main_while0b_v108 main_while0b_v108 main_while0b_v109 (mulf : (⟨S8x2048x3, .f32⟩ : BufTy).Contents (Elt F) → (⟨S8x2048x3, .f32⟩ : BufTy).Contents (Elt F) → (⟨S8x2048x3, .f32⟩ : BufTy).Contents (Elt F)),
    StableHlo.nullary main_while0b_cst_32 (constant S_ .f32 0x00000000#32),
    StableHlo.binary main_while0b_v109 main_while0b_cst_32 main_while0b_v110 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    StableHlo.binary main_v11_5 main_while0b_v110 main_while0b_v111 (minimumf : (⟨S8x2048, .f32⟩ : BufTy).Contents (Elt F) → (⟨S8x2048, .f32⟩ : BufTy).Contents (Elt F) → (⟨S8x2048, .f32⟩ : BufTy).Contents (Elt F)),
    StableHlo.unary main_v11_1 main_while0b_v112 (Host.negf : (⟨S8x2048, .f32⟩ : BufTy).Contents (Elt F) → (⟨S8x2048, .f32⟩ : BufTy).Contents (Elt F)),
    StableHlo.ternary main_v11_2 main_while0b_v111 main_while0b_v112 main_while0b_v113 (select : (⟨S8x2048, .i1⟩ : BufTy).Contents (Elt F) → (⟨S8x2048, .f32⟩ : BufTy).Contents (Elt F) → (⟨S8x2048, .f32⟩ : BufTy).Contents (Elt F) → (⟨S8x2048, .f32⟩ : BufTy).Contents (Elt F)) ]

/-- What `while0Ops0` writes. -/
abbrev while0Ops0_W : List (Ref sig .tc) := [main_while0b_c_29, main_while0b_v98, main_while0b_v99, main_while0b_c_30, main_while0b_v100, main_while0b_v101, main_while0b_c_31, main_while0b_v102, main_while0b_v103, main_while0b_v104, main_while0b_v105, main_while0b_v106, main_while0b_v107, main_while0b_v108, main_while0b_v109, main_while0b_cst_32, main_while0b_v110, main_while0b_v111, main_while0b_v112, main_while0b_v113]

/-- `while0Ops0` writes nothing else. -/
theorem while0Ops0_writes : (while0Ops0 : List (HloOp τ sig (Elt F))).Forall fun op => op.writes ⊆ (while0Ops0_W.map (Proc.devRef (τ := τ) .tc)).toFinset :=
  StableHlo.forall_writes_sub_of_map rfl

/-- The second stretch: the farthest points. -/
def while0Ops0_1 : List (HloOp τ sig (Elt F)) :=
  [ StableHlo.TRef.nullary (.of main_while0b_call0_v0 : StableHlo.TRef sig ⟨S8x2048, .i32⟩) (iotaInDim S8x2048 32 1),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v113 : StableHlo.TRef sig ⟨S8x2048, .f32⟩) (.of main_while0b_call0_v0 : StableHlo.TRef sig ⟨S8x2048, .i32⟩) (.of main_while0b_call0_cst : StableHlo.TRef sig ⟨S_, .f32⟩) (.of main_while0b_call0_c : StableHlo.TRef sig ⟨S_, .i32⟩) (.of main_while0b_call0_v1_0 : StableHlo.TRef sig ⟨S8, .f32⟩) (fun x y u v j => (Host.argReduce reducer_argmax_f32_i32 x y u v reducesTo_S8x2048_S8_d1 h_S_ j).1),
    StableHlo.TRef.quaternary (.of main_while0b_v113 : StableHlo.TRef sig ⟨S8x2048, .f32⟩) (.of main_while0b_call0_v0 : StableHlo.TRef sig ⟨S8x2048, .i32⟩) (.of main_while0b_call0_cst : StableHlo.TRef sig ⟨S_, .f32⟩) (.of main_while0b_call0_c : StableHlo.TRef sig ⟨S_, .i32⟩) (.of main_while0b_v114 : StableHlo.TRef sig ⟨S8, .i32⟩) (fun x y u v j => (Host.argReduce reducer_argmax_f32_i32 x y u v reducesTo_S8x2048_S8_d1 h_S_ j).2) ]

/-- What `while0Ops0_1` writes. -/
abbrev while0Ops0_1_W : List (Ref sig .tc) := [main_while0b_call0_v0, main_while0b_call0_cst, main_while0b_call0_c, main_while0b_call0_v1_0, main_while0b_v114]

/-- `while0Ops0_1` writes nothing else. -/
theorem while0Ops0_1_writes : (while0Ops0_1 : List (HloOp τ sig (Elt F))).Forall fun op => op.writes ⊆ (while0Ops0_1_W.map (Proc.devRef (τ := τ) .tc)).toFinset :=
  StableHlo.forall_writes_sub_of_map rfl

/-- The third stretch: what the next trip is to find. -/
def while0Ops0_2 : List (HloOp τ sig (Elt F)) :=
  [ StableHlo.nullary main_while0b_v115 (iotaInDim S8x128 32 1),
    StableHlo.unary main_v11_4 main_while0b_v116 (id : (⟨S_, .i32⟩ : BufTy).Contents (Elt F) → (⟨S_, .i32⟩ : BufTy).Contents (Elt F)),
    StableHlo.unary main_while0b_v116 main_while0b_v117 (broadcastInDim S8x128 ![] bcast_S_S8x128 : (⟨S_, .i32⟩ : BufTy).Contents (Elt F) → (⟨S8x128, .i32⟩ : BufTy).Contents (Elt F)),
    StableHlo.binary main_while0b_v115 main_while0b_v117 main_while0b_v118 (cmpi .eq : (⟨S8x128, .i32⟩ : BufTy).Contents (Elt F) → (⟨S8x128, .i32⟩ : BufTy).Contents (Elt F) → (⟨S8x128, .i1⟩ : BufTy).Contents (Elt F)),
    StableHlo.unary main_while0b_v114 main_while0b_v119 (broadcastInDim S8x1 ![0] bcast_S8_S8x1_0 : (⟨S8, .i32⟩ : BufTy).Contents (Elt F) → (⟨S8x1, .i32⟩ : BufTy).Contents (Elt F)),
    StableHlo.unary main_while0b_v119 main_while0b_v120 (broadcastInDim S8x128 ![0, 1] bcast_S8x1_S8x128_0_1 : (⟨S8x1, .i32⟩ : BufTy).Contents (Elt F) → (⟨S8x128, .i32⟩ : BufTy).Contents (Elt F)),
    StableHlo.ternary main_while0b_v118 main_while0b_v120 main_v11_6 main_while0b_v121 (select : (⟨S8x128, .i1⟩ : BufTy).Contents (Elt F) → (⟨S8x128, .i32⟩ : BufTy).Contents (Elt F) → (⟨S8x128, .i32⟩ : BufTy).Contents (Elt F) → (⟨S8x128, .i32⟩ : BufTy).Contents (Elt F)),
    StableHlo.nullary main_while0b_c_33 (constantI S_ 32 1#32),
    StableHlo.binary main_v11_3 main_while0b_c_33 main_while0b_v122 (addi : (⟨S_, .i32⟩ : BufTy).Contents (Elt F) → (⟨S_, .i32⟩ : BufTy).Contents (Elt F) → (⟨S_, .i32⟩ : BufTy).Contents (Elt F)),
    StableHlo.unary main_while0b_v122 main_v11_3 id,
    StableHlo.unary main_while0b_v98 main_v11_4 id,
    StableHlo.unary main_while0b_v113 main_v11_5 id,
    StableHlo.unary main_while0b_v121 main_v11_6 id,
    StableHlo.unary main_while0b_v114 main_v11_7 id ]

/-- What `while0Ops0_2` writes. -/
abbrev while0Ops0_2_W : List (Ref sig .tc) := [main_while0b_v115, main_while0b_v116, main_while0b_v117, main_while0b_v118, main_while0b_v119, main_while0b_v120, main_while0b_v121, main_while0b_c_33, main_while0b_v122, main_v11_3, main_v11_4, main_v11_5, main_v11_6, main_v11_7]

/-- `while0Ops0_2` writes nothing else. -/
theorem while0Ops0_2_writes : (while0Ops0_2 : List (HloOp τ sig (Elt F))).Forall fun op => op.writes ⊆ (while0Ops0_2_W.map (Proc.devRef (τ := τ) .tc)).toFinset :=
  StableHlo.forall_writes_sub_of_map rfl

/-- The part of the operations after the loop that looks the centres up. -/
def win0 : List (HloOp τ sig (Elt F)) :=
  [ StableHlo.nullary main_c_4 (constantI S_ 32 0#32),
    StableHlo.unary main_c_4 main_v12 (broadcastInDim S8x128 ![] bcast_S_S8x128 : (⟨S_, .i32⟩ : BufTy).Contents (Elt F) → (⟨S8x128, .i32⟩ : BufTy).Contents (Elt F)),
    StableHlo.binary main_v11_6 main_v12 main_v13 (cmpi .slt : (⟨S8x128, .i32⟩ : BufTy).Contents (Elt F) → (⟨S8x128, .i32⟩ : BufTy).Contents (Elt F) → (⟨S8x128, .i1⟩ : BufTy).Contents (Elt F)),
    StableHlo.nullary main_c_5 (constantI S_ 32 2048#32),
    StableHlo.unary main_c_5 main_v14 (broadcastInDim S8x128 ![] bcast_S_S8x128 : (⟨S_, .i32⟩ : BufTy).Contents (Elt F) → (⟨S8x128, .i32⟩ : BufTy).Contents (Elt F)),
    StableHlo.binary main_v11_6 main_v14 main_v15 (addi : (⟨S8x128, .i32⟩ : BufTy).Contents (Elt F) → (⟨S8x128, .i32⟩ : BufTy).Contents (Elt F) → (⟨S8x128, .i32⟩ : BufTy).Contents (Elt F)),
    StableHlo.ternary main_v13 main_v15 main_v11_6 main_v16 (select : (⟨S8x128, .i1⟩ : BufTy).Contents (Elt F) → (⟨S8x128, .i32⟩ : BufTy).Contents (Elt F) → (⟨S8x128, .i32⟩ : BufTy).Contents (Elt F) → (⟨S8x128, .i32⟩ : BufTy).Contents (Elt F)),
    StableHlo.unary main_v16 main_v17 (broadcastInDim S8x128x1 ![0, 1] bcast_S8x128_S8x128x1_0_1 : (⟨S8x128, .i32⟩ : BufTy).Contents (Elt F) → (⟨S8x128x1, .i32⟩ : BufTy).Contents (Elt F)),
    StableHlo.binary main_arg0 main_v17 main_v18 ((fun x i => Host.gather gather_S8x2048x3_S8x128x1_S8x128x3_2_1_0_0_1_2_113 x i) : (⟨S8x2048x3, .f32⟩ : BufTy).Contents (Elt F) → (⟨S8x128x1, .i32⟩ : BufTy).Contents (Elt F) → (⟨S8x128x3, .f32⟩ : BufTy).Contents (Elt F)) ]

/-- What `win0` writes. -/
abbrev win0_W : List (Ref sig .tc) := [main_c_4, main_v12, main_v13, main_c_5, main_v14, main_v15, main_v16, main_v17, main_v18]

/-- `win0` writes nothing else. -/
theorem win0_writes : (win0 : List (HloOp τ sig (Elt F))).Forall fun op => op.writes ⊆ (win0_W.map (Proc.devRef (τ := τ) .tc)).toFinset :=
  StableHlo.forall_writes_sub_of_map rfl

/-- The part of the operations after the loop that computes the distances from the centres. -/
def win1 : List (HloOp τ sig (Elt F)) :=
  [ StableHlo.unary main_arg0 main_v19 (broadcastInDim S8x1x2048x3 ![0, 2, 3] bcast_S8x2048x3_S8x1x2048x3_0_2_3 : (⟨S8x2048x3, .f32⟩ : BufTy).Contents (Elt F) → (⟨S8x1x2048x3, .f32⟩ : BufTy).Contents (Elt F)),
    StableHlo.unary main_v18 main_v20 (broadcastInDim S8x128x1x3 ![0, 1, 3] bcast_S8x128x3_S8x128x1x3_0_1_3 : (⟨S8x128x3, .f32⟩ : BufTy).Contents (Elt F) → (⟨S8x128x1x3, .f32⟩ : BufTy).Contents (Elt F)),
    StableHlo.unary main_v19 main_v21 (broadcastInDim S8x128x2048x3 ![0, 1, 2, 3] bcast_S8x1x2048x3_S8x128x2048x3_0_1_2_3 : (⟨S8x1x2048x3, .f32⟩ : BufTy).Contents (Elt F) → (⟨S8x128x2048x3, .f32⟩ : BufTy).Contents (Elt F)),
    StableHlo.unary main_v20 main_v22 (broadcastInDim S8x128x2048x3 ![0, 1, 2, 3] bcast_S8x128x1x3_S8x128x2048x3_0_1_2_3 : (⟨S8x128x1x3, .f32⟩ : BufTy).Contents (Elt F) → (⟨S8x128x2048x3, .f32⟩ : BufTy).Contents (Elt F)),
    StableHlo.binary main_v21 main_v22 main_v23 (subf : (⟨S8x128x2048x3, .f32⟩ : BufTy).Contents (Elt F) → (⟨S8x128x2048x3, .f32⟩ : BufTy).Contents (Elt F) → (⟨S8x128x2048x3, .f32⟩ : BufTy).Contents (Elt F)),
    StableHlo.binary main_v23 main_v23 main_v24 (mulf : (⟨S8x128x2048x3, .f32⟩ : BufTy).Contents (Elt F) → (⟨S8x128x2048x3, .f32⟩ : BufTy).Contents (Elt F) → (⟨S8x128x2048x3, .f32⟩ : BufTy).Contents (Elt F)),
    StableHlo.nullary main_cst_6 (constant S_ .f32 0x00000000#32),
    StableHlo.binary main_v24 main_cst_6 main_v25 ((fun x v => Host.reduceAdd x v reducesTo_S8x128x2048x3_S8x128x2048_d3 h_S_) : (⟨S8x128x2048x3, .f32⟩ : BufTy).Contents (Elt F) → (⟨S_, .f32⟩ : BufTy).Contents (Elt F) → (⟨S8x128x2048, .f32⟩ : BufTy).Contents (Elt F)),
    StableHlo.unary main_v5 main_v26 (broadcastInDim S8x1x2048 ![0, 2] bcast_S8x2048_S8x1x2048_0_2 : (⟨S8x2048, .i1⟩ : BufTy).Contents (Elt F) → (⟨S8x1x2048, .i1⟩ : BufTy).Contents (Elt F)),
    StableHlo.unary main_v26 main_v27 (broadcastInDim S8x128x2048 ![0, 1, 2] bcast_S8x1x2048_S8x128x2048_0_1_2 : (⟨S8x1x2048, .i1⟩ : BufTy).Contents (Elt F) → (⟨S8x128x2048, .i1⟩ : BufTy).Contents (Elt F)),
    StableHlo.nullary main_cst_7 (constant S_ .f32 0x7F800000#32),
    StableHlo.unary main_cst_7 main_v28 (broadcastInDim S8x128x2048 ![] bcast_S_S8x128x2048 : (⟨S_, .f32⟩ : BufTy).Contents (Elt F) → (⟨S8x128x2048, .f32⟩ : BufTy).Contents (Elt F)),
    StableHlo.ternary main_v27 main_v25 main_v28 main_v29 (select : (⟨S8x128x2048, .i1⟩ : BufTy).Contents (Elt F) → (⟨S8x128x2048, .f32⟩ : BufTy).Contents (Elt F) → (⟨S8x128x2048, .f32⟩ : BufTy).Contents (Elt F) → (⟨S8x128x2048, .f32⟩ : BufTy).Contents (Elt F)) ]

/-- What `win1` writes. -/
abbrev win1_W : List (Ref sig .tc) := [main_v19, main_v20, main_v21, main_v22, main_v23, main_v24, main_cst_6, main_v25, main_v26, main_v27, main_cst_7, main_v28, main_v29]

/-- `win1` writes nothing else. -/
theorem win1_writes : (win1 : List (HloOp τ sig (Elt F))).Forall fun op => op.writes ⊆ (win1_W.map (Proc.devRef (τ := τ) .tc)).toFinset :=
  StableHlo.forall_writes_sub_of_map rfl

/-- The part of the operations after the loop that finds the nearest points. -/
def win2 : List (HloOp τ sig (Elt F)) :=
  [ StableHlo.unary main_v29 main_v30 (Host.negf : (⟨S8x128x2048, .f32⟩ : BufTy).Contents (Elt F) → (⟨S8x128x2048, .f32⟩ : BufTy).Contents (Elt F)),
    StableHlo.unary main_v30 main_values ((fun x => (Host.topK S8x128x32 2 (FloatOps.cmpfTotal .gt) x sliceFits_S8x128x2048_S8x128x32).1) : (⟨S8x128x2048, .f32⟩ : BufTy).Contents (Elt F) → (⟨S8x128x32, .f32⟩ : BufTy).Contents (Elt F)),
    StableHlo.unary main_v30 main_indices ((fun x => (Host.topK S8x128x32 2 (FloatOps.cmpfTotal .gt) x sliceFits_S8x128x2048_S8x128x32).2) : (⟨S8x128x2048, .f32⟩ : BufTy).Contents (Elt F) → (⟨S8x128x32, .i32⟩ : BufTy).Contents (Elt F)) ]

/-- What `win2` writes. -/
abbrev win2_W : List (Ref sig .tc) := [main_v30, main_values, main_indices]

/-- `win2` writes nothing else. -/
theorem win2_writes : (win2 : List (HloOp τ sig (Elt F))).Forall fun op => op.writes ⊆ (win2_W.map (Proc.devRef (τ := τ) .tc)).toFinset :=
  StableHlo.forall_writes_sub_of_map rfl

/-- The part of the operations after the loop that looks the nearest points up. -/
def win3a : List (HloOp τ sig (Elt F)) :=
  [ StableHlo.nullary main_c_8 (constantI S_ 32 0#32),
    StableHlo.unary main_c_8 main_v31 (broadcastInDim S8x128x32 ![] bcast_S_S8x128x32 : (⟨S_, .i32⟩ : BufTy).Contents (Elt F) → (⟨S8x128x32, .i32⟩ : BufTy).Contents (Elt F)),
    StableHlo.binary main_indices main_v31 main_v32 (cmpi .slt : (⟨S8x128x32, .i32⟩ : BufTy).Contents (Elt F) → (⟨S8x128x32, .i32⟩ : BufTy).Contents (Elt F) → (⟨S8x128x32, .i1⟩ : BufTy).Contents (Elt F)),
    StableHlo.nullary main_c_9 (constantI S_ 32 2048#32),
    StableHlo.unary main_c_9 main_v33 (broadcastInDim S8x128x32 ![] bcast_S_S8x128x32 : (⟨S_, .i32⟩ : BufTy).Contents (Elt F) → (⟨S8x128x32, .i32⟩ : BufTy).Contents (Elt F)),
    StableHlo.binary main_indices main_v33 main_v34 (addi : (⟨S8x128x32, .i32⟩ : BufTy).Contents (Elt F) → (⟨S8x128x32, .i32⟩ : BufTy).Contents (Elt F) → (⟨S8x128x32, .i32⟩ : BufTy).Contents (Elt F)),
    StableHlo.ternary main_v32 main_v34 main_indices main_v35 (select : (⟨S8x128x32, .i1⟩ : BufTy).Contents (Elt F) → (⟨S8x128x32, .i32⟩ : BufTy).Contents (Elt F) → (⟨S8x128x32, .i32⟩ : BufTy).Contents (Elt F) → (⟨S8x128x32, .i32⟩ : BufTy).Contents (Elt F)),
    StableHlo.unary main_v35 main_v36 (broadcastInDim S8x128x32x1 ![0, 1, 2] bcast_S8x128x32_S8x128x32x1_0_1_2 : (⟨S8x128x32, .i32⟩ : BufTy).Contents (Elt F) → (⟨S8x128x32x1, .i32⟩ : BufTy).Contents (Elt F)),
    StableHlo.binary main_arg0 main_v36 main_v37 ((fun x i => Host.gather gather_S8x2048x3_S8x128x32x1_S8x128x32x3_3_1_0_0_1_3_113 x i) : (⟨S8x2048x3, .f32⟩ : BufTy).Contents (Elt F) → (⟨S8x128x32x1, .i32⟩ : BufTy).Contents (Elt F) → (⟨S8x128x32x3, .f32⟩ : BufTy).Contents (Elt F)) ]

/-- What `win3a` writes. -/
abbrev win3a_W : List (Ref sig .tc) := [main_c_8, main_v31, main_v32, main_c_9, main_v33, main_v34, main_v35, main_v36, main_v37]

/-- `win3a` writes nothing else. -/
theorem win3a_writes : (win3a : List (HloOp τ sig (Elt F))).Forall fun op => op.writes ⊆ (win3a_W.map (Proc.devRef (τ := τ) .tc)).toFinset :=
  StableHlo.forall_writes_sub_of_map rfl

/-- The part of the operations after the loop that subtracts the centres. -/
def win3b : List (HloOp τ sig (Elt F)) :=
  [ StableHlo.unary main_v18 main_v38 (broadcastInDim S8x128x1x3 ![0, 1, 3] bcast_S8x128x3_S8x128x1x3_0_1_3 : (⟨S8x128x3, .f32⟩ : BufTy).Contents (Elt F) → (⟨S8x128x1x3, .f32⟩ : BufTy).Contents (Elt F)),
    StableHlo.unary main_v38 main_v39 (broadcastInDim S8x128x32x3 ![0, 1, 2, 3] bcast_S8x128x1x3_S8x128x32x3_0_1_2_3 : (⟨S8x128x1x3, .f32⟩ : BufTy).Contents (Elt F) → (⟨S8x128x32x3, .f32⟩ : BufTy).Contents (Elt F)),
    StableHlo.binary main_v37 main_v39 main_v40 (subf : (⟨S8x128x32x3, .f32⟩ : BufTy).Contents (Elt F) → (⟨S8x128x32x3, .f32⟩ : BufTy).Contents (Elt F) → (⟨S8x128x32x3, .f32⟩ : BufTy).Contents (Elt F)) ]

/-- What `win3b` writes. -/
abbrev win3b_W : List (Ref sig .tc) := [main_v38, main_v39, main_v40]

/-- `win3b` writes nothing else. -/
theorem win3b_writes : (win3b : List (HloOp τ sig (Elt F))).Forall fun op => op.writes ⊆ (win3b_W.map (Proc.devRef (τ := τ) .tc)).toFinset :=
  StableHlo.forall_writes_sub_of_map rfl

/-- The part of the operations after the loop that finds which of them are valid. -/
def win4 : List (HloOp τ sig (Elt F)) :=
  [ StableHlo.nullary main_c_10 (constantI S_ 32 0#32),
    StableHlo.unary main_c_10 main_v41 (broadcastInDim S8x128x32 ![] bcast_S_S8x128x32 : (⟨S_, .i32⟩ : BufTy).Contents (Elt F) → (⟨S8x128x32, .i32⟩ : BufTy).Contents (Elt F)),
    StableHlo.binary main_indices main_v41 main_v42 (cmpi .slt : (⟨S8x128x32, .i32⟩ : BufTy).Contents (Elt F) → (⟨S8x128x32, .i32⟩ : BufTy).Contents (Elt F) → (⟨S8x128x32, .i1⟩ : BufTy).Contents (Elt F)),
    StableHlo.nullary main_c_11 (constantI S_ 32 2048#32),
    StableHlo.unary main_c_11 main_v43 (broadcastInDim S8x128x32 ![] bcast_S_S8x128x32 : (⟨S_, .i32⟩ : BufTy).Contents (Elt F) → (⟨S8x128x32, .i32⟩ : BufTy).Contents (Elt F)),
    StableHlo.binary main_indices main_v43 main_v44 (addi : (⟨S8x128x32, .i32⟩ : BufTy).Contents (Elt F) → (⟨S8x128x32, .i32⟩ : BufTy).Contents (Elt F) → (⟨S8x128x32, .i32⟩ : BufTy).Contents (Elt F)),
    StableHlo.ternary main_v42 main_v44 main_indices main_v45 (select : (⟨S8x128x32, .i1⟩ : BufTy).Contents (Elt F) → (⟨S8x128x32, .i32⟩ : BufTy).Contents (Elt F) → (⟨S8x128x32, .i32⟩ : BufTy).Contents (Elt F) → (⟨S8x128x32, .i32⟩ : BufTy).Contents (Elt F)),
    StableHlo.unary main_v45 main_v46 (broadcastInDim S8x128x32x1 ![0, 1, 2] bcast_S8x128x32_S8x128x32x1_0_1_2 : (⟨S8x128x32, .i32⟩ : BufTy).Contents (Elt F) → (⟨S8x128x32x1, .i32⟩ : BufTy).Contents (Elt F)),
    StableHlo.binary main_v5 main_v46 main_v47 ((fun x i => Host.gather gather_S8x2048_S8x128x32x1_S8x128x32_n_1_0_0_1_3_11 x i) : (⟨S8x2048, .i1⟩ : BufTy).Contents (Elt F) → (⟨S8x128x32x1, .i32⟩ : BufTy).Contents (Elt F) → (⟨S8x128x32, .i1⟩ : BufTy).Contents (Elt F)) ]

/-- What `win4` writes. -/
abbrev win4_W : List (Ref sig .tc) := [main_c_10, main_v41, main_v42, main_c_11, main_v43, main_v44, main_v45, main_v46, main_v47]

/-- `win4` writes nothing else. -/
theorem win4_writes : (win4 : List (HloOp τ sig (Elt F))).Forall fun op => op.writes ⊆ (win4_W.map (Proc.devRef (τ := τ) .tc)).toFinset :=
  StableHlo.forall_writes_sub_of_map rfl

/-- The part of the operations after the loop that reorders the groups. -/
def win5 : List (HloOp τ sig (Elt F)) :=
  [ StableHlo.nullary main_c_12 (constantI S_ 32 0#32),
    StableHlo.unary main_c_12 main_v48 (broadcastInDim S8x52 ![] bcast_S_S8x52 : (⟨S_, .i32⟩ : BufTy).Contents (Elt F) → (⟨S8x52, .i32⟩ : BufTy).Contents (Elt F)),
    StableHlo.binary main_c main_v48 main_v49 (cmpi .slt : (⟨S8x52, .i32⟩ : BufTy).Contents (Elt F) → (⟨S8x52, .i32⟩ : BufTy).Contents (Elt F) → (⟨S8x52, .i1⟩ : BufTy).Contents (Elt F)),
    StableHlo.nullary main_c_13 (constantI S_ 32 128#32),
    StableHlo.unary main_c_13 main_v50 (broadcastInDim S8x52 ![] bcast_S_S8x52 : (⟨S_, .i32⟩ : BufTy).Contents (Elt F) → (⟨S8x52, .i32⟩ : BufTy).Contents (Elt F)),
    StableHlo.binary main_c main_v50 main_v51 (addi : (⟨S8x52, .i32⟩ : BufTy).Contents (Elt F) → (⟨S8x52, .i32⟩ : BufTy).Contents (Elt F) → (⟨S8x52, .i32⟩ : BufTy).Contents (Elt F)),
    StableHlo.ternary main_v49 main_v51 main_c main_v52 (select : (⟨S8x52, .i1⟩ : BufTy).Contents (Elt F) → (⟨S8x52, .i32⟩ : BufTy).Contents (Elt F) → (⟨S8x52, .i32⟩ : BufTy).Contents (Elt F) → (⟨S8x52, .i32⟩ : BufTy).Contents (Elt F)),
    StableHlo.unary main_v52 main_v53 (broadcastInDim S8x52x1 ![0, 1] bcast_S8x52_S8x52x1_0_1 : (⟨S8x52, .i32⟩ : BufTy).Contents (Elt F) → (⟨S8x52x1, .i32⟩ : BufTy).Contents (Elt F)),
    StableHlo.binary main_v40 main_v53 main_v54 ((fun x i => Host.gather gather_S8x128x32x3_S8x52x1_S8x52x32x3_23_1_0_0_1_2_11323 x i) : (⟨S8x128x32x3, .f32⟩ : BufTy).Contents (Elt F) → (⟨S8x52x1, .i32⟩ : BufTy).Contents (Elt F) → (⟨S8x52x32x3, .f32⟩ : BufTy).Contents (Elt F)),
    StableHlo.reshape main_v54 main_v55 (rfl : (.f32 : EltTy) = .f32) shapeCasts_S8x52x32x3_S416x32x3 ]

/-- What `win5` writes. -/
abbrev win5_W : List (Ref sig .tc) := [main_c_12, main_v48, main_v49, main_c_13, main_v50, main_v51, main_v52, main_v53, main_v54, main_v55]

/-- `win5` writes nothing else. -/
theorem win5_writes : (win5 : List (HloOp τ sig (Elt F))).Forall fun op => op.writes ⊆ (win5_W.map (Proc.devRef (τ := τ) .tc)).toFinset :=
  StableHlo.forall_writes_sub_of_map rfl

/-- The part of the operations after the loop that reorders their masks. -/
def win6 : List (HloOp τ sig (Elt F)) :=
  [ StableHlo.nullary main_c_14 (constantI S_ 32 0#32),
    StableHlo.unary main_c_14 main_v56 (broadcastInDim S8x52 ![] bcast_S_S8x52 : (⟨S_, .i32⟩ : BufTy).Contents (Elt F) → (⟨S8x52, .i32⟩ : BufTy).Contents (Elt F)),
    StableHlo.binary main_c main_v56 main_v57 (cmpi .slt : (⟨S8x52, .i32⟩ : BufTy).Contents (Elt F) → (⟨S8x52, .i32⟩ : BufTy).Contents (Elt F) → (⟨S8x52, .i1⟩ : BufTy).Contents (Elt F)),
    StableHlo.nullary main_c_15 (constantI S_ 32 128#32),
    StableHlo.unary main_c_15 main_v58 (broadcastInDim S8x52 ![] bcast_S_S8x52 : (⟨S_, .i32⟩ : BufTy).Contents (Elt F) → (⟨S8x52, .i32⟩ : BufTy).Contents (Elt F)),
    StableHlo.binary main_c main_v58 main_v59 (addi : (⟨S8x52, .i32⟩ : BufTy).Contents (Elt F) → (⟨S8x52, .i32⟩ : BufTy).Contents (Elt F) → (⟨S8x52, .i32⟩ : BufTy).Contents (Elt F)),
    StableHlo.ternary main_v57 main_v59 main_c main_v60 (select : (⟨S8x52, .i1⟩ : BufTy).Contents (Elt F) → (⟨S8x52, .i32⟩ : BufTy).Contents (Elt F) → (⟨S8x52, .i32⟩ : BufTy).Contents (Elt F) → (⟨S8x52, .i32⟩ : BufTy).Contents (Elt F)),
    StableHlo.unary main_v60 main_v61 (broadcastInDim S8x52x1 ![0, 1] bcast_S8x52_S8x52x1_0_1 : (⟨S8x52, .i32⟩ : BufTy).Contents (Elt F) → (⟨S8x52x1, .i32⟩ : BufTy).Contents (Elt F)),
    StableHlo.binary main_v47 main_v61 main_v62 ((fun x i => Host.gather gather_S8x128x32_S8x52x1_S8x52x32_2_1_0_0_1_2_1132 x i) : (⟨S8x128x32, .i1⟩ : BufTy).Contents (Elt F) → (⟨S8x52x1, .i32⟩ : BufTy).Contents (Elt F) → (⟨S8x52x32, .i1⟩ : BufTy).Contents (Elt F)),
    StableHlo.reshape main_v62 main_v63 (rfl : (.i1 : EltTy) = .i1) shapeCasts_S8x52x32_S416x32 ]

/-- What `win6` writes. -/
abbrev win6_W : List (Ref sig .tc) := [main_c_14, main_v56, main_v57, main_c_15, main_v58, main_v59, main_v60, main_v61, main_v62, main_v63]

/-- `win6` writes nothing else. -/
theorem win6_writes : (win6 : List (HloOp τ sig (Elt F))).Forall fun op => op.writes ⊆ (win6_W.map (Proc.devRef (τ := τ) .tc)).toFinset :=
  StableHlo.forall_writes_sub_of_map rfl

/-- The part of the operations after the loop that computes the features. -/
def win7 : List (HloOp τ sig (Elt F)) :=
  [ StableHlo.binary main_v55 main_arg2 main_v64 ((fun l r => Host.dotGeneral dot_S416x32x3_S3x128_S416x32x128_2_0_01_1_n_n none l r) : (⟨S416x32x3, .f32⟩ : BufTy).Contents (Elt F) → (⟨S3x128, .f32⟩ : BufTy).Contents (Elt F) → (⟨S416x32x128, .f32⟩ : BufTy).Contents (Elt F)),
    StableHlo.unary main_arg3 main_v65 (broadcastInDim S1x1x128 ![2] bcast_S128_S1x1x128_2 : (⟨S128, .f32⟩ : BufTy).Contents (Elt F) → (⟨S1x1x128, .f32⟩ : BufTy).Contents (Elt F)),
    StableHlo.unary main_v65 main_v66 (broadcastInDim S416x32x128 ![0, 1, 2] bcast_S1x1x128_S416x32x128_0_1_2 : (⟨S1x1x128, .f32⟩ : BufTy).Contents (Elt F) → (⟨S416x32x128, .f32⟩ : BufTy).Contents (Elt F)),
    StableHlo.binary main_v64 main_v66 main_v67 (addf : (⟨S416x32x128, .f32⟩ : BufTy).Contents (Elt F) → (⟨S416x32x128, .f32⟩ : BufTy).Contents (Elt F) → (⟨S416x32x128, .f32⟩ : BufTy).Contents (Elt F)),
    StableHlo.nullary main_cst_16 (constant S_ .f32 0x00000000#32),
    StableHlo.unary main_cst_16 main_v68 (broadcastInDim S416x32x128 ![] bcast_S_S416x32x128 : (⟨S_, .f32⟩ : BufTy).Contents (Elt F) → (⟨S416x32x128, .f32⟩ : BufTy).Contents (Elt F)),
    StableHlo.binary main_v67 main_v68 main_v69 (maximumf : (⟨S416x32x128, .f32⟩ : BufTy).Contents (Elt F) → (⟨S416x32x128, .f32⟩ : BufTy).Contents (Elt F) → (⟨S416x32x128, .f32⟩ : BufTy).Contents (Elt F)),
    StableHlo.binary main_v69 main_arg4 main_v70 ((fun l r => Host.dotGeneral dot_S416x32x128_S128x256_S416x32x256_2_0_01_1_n_n none l r) : (⟨S416x32x128, .f32⟩ : BufTy).Contents (Elt F) → (⟨S128x256, .f32⟩ : BufTy).Contents (Elt F) → (⟨S416x32x256, .f32⟩ : BufTy).Contents (Elt F)),
    StableHlo.unary main_arg5 main_v71 (broadcastInDim S1x1x256 ![2] bcast_S256_S1x1x256_2 : (⟨S256, .f32⟩ : BufTy).Contents (Elt F) → (⟨S1x1x256, .f32⟩ : BufTy).Contents (Elt F)),
    StableHlo.unary main_v71 main_v72 (broadcastInDim S416x32x256 ![0, 1, 2] bcast_S1x1x256_S416x32x256_0_1_2 : (⟨S1x1x256, .f32⟩ : BufTy).Contents (Elt F) → (⟨S416x32x256, .f32⟩ : BufTy).Contents (Elt F)),
    StableHlo.binary main_v70 main_v72 main_v73 (addf : (⟨S416x32x256, .f32⟩ : BufTy).Contents (Elt F) → (⟨S416x32x256, .f32⟩ : BufTy).Contents (Elt F) → (⟨S416x32x256, .f32⟩ : BufTy).Contents (Elt F)) ]

/-- What `win7` writes. -/
abbrev win7_W : List (Ref sig .tc) := [main_v64, main_v65, main_v66, main_v67, main_cst_16, main_v68, main_v69, main_v70, main_v71, main_v72, main_v73]

/-- `win7` writes nothing else. -/
theorem win7_writes : (win7 : List (HloOp τ sig (Elt F))).Forall fun op => op.writes ⊆ (win7_W.map (Proc.devRef (τ := τ) .tc)).toFinset :=
  StableHlo.forall_writes_sub_of_map rfl

/-- The part of the operations after the loop that computes the groups' features. -/
def win8 : List (HloOp τ sig (Elt F)) :=
  [ StableHlo.unary main_v63 main_v74 (broadcastInDim S416x32x1 ![0, 1] bcast_S416x32_S416x32x1_0_1 : (⟨S416x32, .i1⟩ : BufTy).Contents (Elt F) → (⟨S416x32x1, .i1⟩ : BufTy).Contents (Elt F)),
    StableHlo.unary main_v74 main_v75 (broadcastInDim S416x32x256 ![0, 1, 2] bcast_S416x32x1_S416x32x256_0_1_2 : (⟨S416x32x1, .i1⟩ : BufTy).Contents (Elt F) → (⟨S416x32x256, .i1⟩ : BufTy).Contents (Elt F)),
    StableHlo.nullary main_cst_17 (constant S_ .f32 0xFF800000#32),
    StableHlo.unary main_cst_17 main_v76 (broadcastInDim S416x32x256 ![] bcast_S_S416x32x256 : (⟨S_, .f32⟩ : BufTy).Contents (Elt F) → (⟨S416x32x256, .f32⟩ : BufTy).Contents (Elt F)),
    StableHlo.ternary main_v75 main_v73 main_v76 main_v77 (select : (⟨S416x32x256, .i1⟩ : BufTy).Contents (Elt F) → (⟨S416x32x256, .f32⟩ : BufTy).Contents (Elt F) → (⟨S416x32x256, .f32⟩ : BufTy).Contents (Elt F) → (⟨S416x32x256, .f32⟩ : BufTy).Contents (Elt F)),
    StableHlo.nullary main_cst_18 (constant S_ .f32 0xFF800000#32),
    StableHlo.binary main_v77 main_cst_18 main_v78 ((fun x v => Host.reduce FloatOps.maximumf x v reducesTo_S416x32x256_S416x256_d1 h_S_) : (⟨S416x32x256, .f32⟩ : BufTy).Contents (Elt F) → (⟨S_, .f32⟩ : BufTy).Contents (Elt F) → (⟨S416x256, .f32⟩ : BufTy).Contents (Elt F)) ]

/-- What `win8` writes. -/
abbrev win8_W : List (Ref sig .tc) := [main_v74, main_v75, main_cst_17, main_v76, main_v77, main_cst_18, main_v78]

/-- `win8` writes nothing else. -/
theorem win8_writes : (win8 : List (HloOp τ sig (Elt F))).Forall fun op => op.writes ⊆ (win8_W.map (Proc.devRef (τ := τ) .tc)).toFinset :=
  StableHlo.forall_writes_sub_of_map rfl

/-- The part of the operations after the loop that joins the two. -/
def win9 : List (HloOp τ sig (Elt F)) :=
  [ StableHlo.unary main_v78 main_v79 (broadcastInDim S416x1x256 ![0, 2] bcast_S416x256_S416x1x256_0_2 : (⟨S416x256, .f32⟩ : BufTy).Contents (Elt F) → (⟨S416x1x256, .f32⟩ : BufTy).Contents (Elt F)),
    StableHlo.unary main_v79 main_v80 (broadcastInDim S416x32x256 ![0, 1, 2] bcast_S416x1x256_S416x32x256_0_1_2 : (⟨S416x1x256, .f32⟩ : BufTy).Contents (Elt F) → (⟨S416x32x256, .f32⟩ : BufTy).Contents (Elt F)),
    StableHlo.binary main_v73 main_v80 main_v81 ((fun a b => concatenate S416x32x512 2 [⟨S416x32x256, a⟩, ⟨S416x32x256, b⟩] concatenates_S416x32x256_S416x32x256_S416x32x512_d2) : (⟨S416x32x256, .f32⟩ : BufTy).Contents (Elt F) → (⟨S416x32x256, .f32⟩ : BufTy).Contents (Elt F) → (⟨S416x32x512, .f32⟩ : BufTy).Contents (Elt F)) ]

/-- What `win9` writes. -/
abbrev win9_W : List (Ref sig .tc) := [main_v79, main_v80, main_v81]

/-- `win9` writes nothing else. -/
theorem win9_writes : (win9 : List (HloOp τ sig (Elt F))).Forall fun op => op.writes ⊆ (win9_W.map (Proc.devRef (τ := τ) .tc)).toFinset :=
  StableHlo.forall_writes_sub_of_map rfl

/-- The part of the operations after the loop that applies the third layer. -/
def win10a : List (HloOp τ sig (Elt F)) :=
  [ StableHlo.binary main_v81 main_arg6 main_v82 ((fun l r => Host.dotGeneral dot_S416x32x512_S512x512_S416x32x512_2_0_01_1_n_n none l r) : (⟨S416x32x512, .f32⟩ : BufTy).Contents (Elt F) → (⟨S512x512, .f32⟩ : BufTy).Contents (Elt F) → (⟨S416x32x512, .f32⟩ : BufTy).Contents (Elt F)),
    StableHlo.unary main_arg7 main_v83 (broadcastInDim S1x1x512 ![2] bcast_S512_S1x1x512_2 : (⟨S512, .f32⟩ : BufTy).Contents (Elt F) → (⟨S1x1x512, .f32⟩ : BufTy).Contents (Elt F)),
    StableHlo.unary main_v83 main_v84 (broadcastInDim S416x32x512 ![0, 1, 2] bcast_S1x1x512_S416x32x512_0_1_2 : (⟨S1x1x512, .f32⟩ : BufTy).Contents (Elt F) → (⟨S416x32x512, .f32⟩ : BufTy).Contents (Elt F)),
    StableHlo.binary main_v82 main_v84 main_v85 (addf : (⟨S416x32x512, .f32⟩ : BufTy).Contents (Elt F) → (⟨S416x32x512, .f32⟩ : BufTy).Contents (Elt F) → (⟨S416x32x512, .f32⟩ : BufTy).Contents (Elt F)),
    StableHlo.nullary main_cst_19 (constant S_ .f32 0x00000000#32),
    StableHlo.unary main_cst_19 main_v86 (broadcastInDim S416x32x512 ![] bcast_S_S416x32x512 : (⟨S_, .f32⟩ : BufTy).Contents (Elt F) → (⟨S416x32x512, .f32⟩ : BufTy).Contents (Elt F)),
    StableHlo.binary main_v85 main_v86 main_v87 (maximumf : (⟨S416x32x512, .f32⟩ : BufTy).Contents (Elt F) → (⟨S416x32x512, .f32⟩ : BufTy).Contents (Elt F) → (⟨S416x32x512, .f32⟩ : BufTy).Contents (Elt F)) ]

/-- What `win10a` writes. -/
abbrev win10a_W : List (Ref sig .tc) := [main_v82, main_v83, main_v84, main_v85, main_cst_19, main_v86, main_v87]

/-- `win10a` writes nothing else. -/
theorem win10a_writes : (win10a : List (HloOp τ sig (Elt F))).Forall fun op => op.writes ⊆ (win10a_W.map (Proc.devRef (τ := τ) .tc)).toFinset :=
  StableHlo.forall_writes_sub_of_map rfl

/-- The part of the operations after the loop that applies the fourth layer. -/
def win10b : List (HloOp τ sig (Elt F)) :=
  [ StableHlo.binary main_v87 main_arg8 main_v88 ((fun l r => Host.dotGeneral dot_S416x32x512_S512x384_S416x32x384_2_0_01_1_n_n none l r) : (⟨S416x32x512, .f32⟩ : BufTy).Contents (Elt F) → (⟨S512x384, .f32⟩ : BufTy).Contents (Elt F) → (⟨S416x32x384, .f32⟩ : BufTy).Contents (Elt F)),
    StableHlo.unary main_arg9 main_v89 (broadcastInDim S1x1x384 ![2] bcast_S384_S1x1x384_2 : (⟨S384, .f32⟩ : BufTy).Contents (Elt F) → (⟨S1x1x384, .f32⟩ : BufTy).Contents (Elt F)),
    StableHlo.unary main_v89 main_v90 (broadcastInDim S416x32x384 ![0, 1, 2] bcast_S1x1x384_S416x32x384_0_1_2 : (⟨S1x1x384, .f32⟩ : BufTy).Contents (Elt F) → (⟨S416x32x384, .f32⟩ : BufTy).Contents (Elt F)),
    StableHlo.binary main_v88 main_v90 main_v91 (addf : (⟨S416x32x384, .f32⟩ : BufTy).Contents (Elt F) → (⟨S416x32x384, .f32⟩ : BufTy).Contents (Elt F) → (⟨S416x32x384, .f32⟩ : BufTy).Contents (Elt F)) ]

/-- What `win10b` writes. -/
abbrev win10b_W : List (Ref sig .tc) := [main_v88, main_v89, main_v90, main_v91]

/-- `win10b` writes nothing else. -/
theorem win10b_writes : (win10b : List (HloOp τ sig (Elt F))).Forall fun op => op.writes ⊆ (win10b_W.map (Proc.devRef (τ := τ) .tc)).toFinset :=
  StableHlo.forall_writes_sub_of_map rfl

/-- The part of the operations after the loop that takes the tokens. -/
def win11 : List (HloOp τ sig (Elt F)) :=
  [ StableHlo.unary main_v63 main_v92 (broadcastInDim S416x32x1 ![0, 1] bcast_S416x32_S416x32x1_0_1 : (⟨S416x32, .i1⟩ : BufTy).Contents (Elt F) → (⟨S416x32x1, .i1⟩ : BufTy).Contents (Elt F)),
    StableHlo.unary main_v92 main_v93 (broadcastInDim S416x32x384 ![0, 1, 2] bcast_S416x32x1_S416x32x384_0_1_2 : (⟨S416x32x1, .i1⟩ : BufTy).Contents (Elt F) → (⟨S416x32x384, .i1⟩ : BufTy).Contents (Elt F)),
    StableHlo.nullary main_cst_20 (constant S_ .f32 0xFF800000#32),
    StableHlo.unary main_cst_20 main_v94 (broadcastInDim S416x32x384 ![] bcast_S_S416x32x384 : (⟨S_, .f32⟩ : BufTy).Contents (Elt F) → (⟨S416x32x384, .f32⟩ : BufTy).Contents (Elt F)),
    StableHlo.ternary main_v93 main_v91 main_v94 main_v95 (select : (⟨S416x32x384, .i1⟩ : BufTy).Contents (Elt F) → (⟨S416x32x384, .f32⟩ : BufTy).Contents (Elt F) → (⟨S416x32x384, .f32⟩ : BufTy).Contents (Elt F) → (⟨S416x32x384, .f32⟩ : BufTy).Contents (Elt F)),
    StableHlo.nullary main_cst_21 (constant S_ .f32 0xFF800000#32),
    StableHlo.binary main_v95 main_cst_21 main_v96 ((fun x v => Host.reduce FloatOps.maximumf x v reducesTo_S416x32x384_S416x384_d1 h_S_) : (⟨S416x32x384, .f32⟩ : BufTy).Contents (Elt F) → (⟨S_, .f32⟩ : BufTy).Contents (Elt F) → (⟨S416x384, .f32⟩ : BufTy).Contents (Elt F)),
    StableHlo.reshape main_v96 main_v97 (rfl : (.f32 : EltTy) = .f32) shapeCasts_S416x384_S8x52x384 ]

/-- What `win11` writes. -/
abbrev win11_W : List (Ref sig .tc) := [main_v92, main_v93, main_cst_20, main_v94, main_v95, main_cst_21, main_v96, main_v97]

/-- `win11` writes nothing else. -/
theorem win11_writes : (win11 : List (HloOp τ sig (Elt F))).Forall fun op => op.writes ⊆ (win11_W.map (Proc.devRef (τ := τ) .tc)).toFinset :=
  StableHlo.forall_writes_sub_of_map rfl

/-- The loop's condition: the bound, and the trip counter compared with it. -/
abbrev condOps : List (HloOp τ sig (Elt F)) :=
  [ StableHlo.nullary main_while0c_c_29 (constantI S_ 32 127#32),
    StableHlo.binary main_v11_3 main_while0c_c_29 main_while0c_v98 (cmpi .slt) ]

/-- What `condOps` writes. -/
abbrev condOps_W : List (Ref sig .tc) := [main_while0c_c_29, main_while0c_v98]

/-- `condOps` writes nothing else. -/
theorem condOps_writes : (condOps : List (HloOp τ sig (Elt F))).Forall fun op => op.writes ⊆ (condOps_W.map (Proc.devRef (τ := τ) .tc)).toFinset :=
  StableHlo.forall_writes_sub_of_map rfl

/-- The stretches before the loop. -/
abbrev preI : List (List (HloOp τ sig (Elt F))) := [hostOps0]

/-- The stretches of the loop's body. -/
abbrev bodyI : List (List (HloOp τ sig (Elt F))) := [while0Ops0, while0Ops0_1, while0Ops0_2]

/-- The stretches after the loop. -/
abbrev postI : List (List (HloOp τ sig (Elt F))) := [win0, win1, win2, win3a, win3b, win4, win5, win6, win7, win8, win9, win10a, win10b, win11]

/-! ## The program is these operations -/

/-- The program up to its sixtieth statement. -/
theorem main_part0_chain (c : Dev nD) : main_part0 (F := F) c = (Pipeline.chainK [StableHlo.seq hostOps0, HostLoop.enter 0]
    (StableHlo.seq (win0 ++ (win1 ++ (win2 ++ (win3a))))) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- Its next sixty statements. -/
theorem main_part1_chain (c : Dev nD) : main_part1 (F := F) c = (Pipeline.chainK []
    (StableHlo.seq (win3b ++ (win4 ++ (win5 ++ (win6 ++ (win7 ++ (win8 ++ (win9 ++ (win10a))))))))) : Prog (TpuEff nD τ sig (Elt F) (HostLoop.Sig (Pipeline.Sig Λ₀ (Fin 0) fun p => (pcfgs (F := F) p).Adm) 1) .tc) PUnit) := by
  chain_rfl

/-- Its last statements. -/
theorem main_part2_chain (c : Dev nD) : main_part2 (F := F) c = (Pipeline.chain
    [StableHlo.seq (win10b ++ (win11))] : Prog (TpuEff nD τ sig (Elt F) (HostLoop.Sig (Pipeline.Sig Λ₀ (Fin 0) fun p => (pcfgs (F := F) p).Adm) 1) .tc) PUnit) := by
  rewrite [StableHlo.chain_seq_cons]
  chain_rfl

/-- The program is the stretches before the loop, the loop, and the stretches after it. -/
theorem main_chain (c : Dev nD) : main (F := F) c
    = Pipeline.chain ((preI.map fun ops => (StableHlo.seq ops : Prog (TpuEff nD τ sig (Elt F) (HostLoop.Sig (Pipeline.Sig Λ₀ (Fin 0) fun p => (pcfgs (F := F) p).Adm) 1) .tc) PUnit)) ++ HostLoop.enter 0 :: postI.map fun ops => StableHlo.seq ops) := by
  have h := StableHlo.chain_cut_eq_whole (nD := nD) ([.ops [hostOps0], .prog (HostLoop.enter 0), .ops [win0, win1, win2, win3a],
    .ops [win3b, win4, win5, win6, win7, win8, win9, win10a], .ops [win10b, win11]] : List (StableHlo.Group nD τ sig (Elt F) (HostLoop.Sig (Pipeline.Sig Λ₀ (Fin 0) fun p => (pcfgs (F := F) p).Adm) 1)))
  refine Eq.trans ?_ h.symm
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- The loop's body is its three stretches. -/
theorem while0_body_chain : main_while0_body (F := F)
    = Pipeline.chain (bodyI.map fun ops => (StableHlo.seq ops : Prog (TpuEff nD τ sig (Elt F) (HostLoop.Sig (Pipeline.Sig Λ₀ (Fin 0) fun p => (pcfgs (F := F) p).Adm) 1) .tc) PUnit)) := by
  show _ = Pipeline.chain [StableHlo.seq while0Ops0, StableHlo.seq while0Ops0_1, StableHlo.seq while0Ops0_2]
  rewrite [StableHlo.chain_seq_cons, Pipeline.chain_cons, StableHlo.chain_seq_cons]
  chain_rfl

/-! ## Its run -/

/-- The stretches before the loop read and write buffers of the core alone, and make none. -/
theorem hpre : Plain (preI (F := F)) :=
  .cons (⟨StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩)
    (.nil)

/-- So do the stretches of the loop's body. -/
theorem hbodyI : Plain (bodyI (F := F)) :=
  .cons (⟨StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.ternary_bufs_sub ..⟩)
    (.cons (⟨StableHlo.nullary_bufs_sub .., StableHlo.nullary_bufs_sub .., StableHlo.nullary_bufs_sub .., StableHlo.quaternary_bufs_sub .., StableHlo.quaternary_bufs_sub ..⟩)
    (.cons (⟨StableHlo.nullary_bufs_sub .., StableHlo.unary_bufs_sub .., StableHlo.unary_bufs_sub .., StableHlo.binary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩)
    (.nil)))

/-- So do the stretches after the loop. -/
theorem hpost : Plain (postI (F := F)) :=
  .cons (⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩)
    (.cons (⟨StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.ternary_bufs_sub ..⟩)
    (.cons (⟨StableHlo.unary_bufs_sub .., StableHlo.unary_bufs_sub .., StableHlo.unary_bufs_sub ..⟩)
    (.cons (⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩)
    (.cons (⟨StableHlo.unary_bufs_sub .., StableHlo.unary_bufs_sub .., StableHlo.binary_bufs_sub ..⟩)
    (.cons (⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩)
    (.cons (⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub ..⟩)
    (.cons (⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub ..⟩)
    (.cons (⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩)
    (.cons (⟨StableHlo.unary_bufs_sub .., StableHlo.unary_bufs_sub .., StableHlo.nullary_bufs_sub .., StableHlo.unary_bufs_sub .., StableHlo.ternary_bufs_sub .., StableHlo.nullary_bufs_sub .., StableHlo.binary_bufs_sub ..⟩)
    (.cons (⟨StableHlo.unary_bufs_sub .., StableHlo.unary_bufs_sub .., StableHlo.binary_bufs_sub ..⟩)
    (.cons (⟨StableHlo.binary_bufs_sub .., StableHlo.unary_bufs_sub .., StableHlo.unary_bufs_sub .., StableHlo.binary_bufs_sub .., StableHlo.nullary_bufs_sub .., StableHlo.unary_bufs_sub .., StableHlo.binary_bufs_sub ..⟩)
    (.cons (⟨StableHlo.binary_bufs_sub .., StableHlo.unary_bufs_sub .., StableHlo.unary_bufs_sub .., StableHlo.binary_bufs_sub ..⟩)
    (.cons (⟨StableHlo.unary_bufs_sub .., StableHlo.unary_bufs_sub .., StableHlo.nullary_bufs_sub .., StableHlo.unary_bufs_sub .., StableHlo.ternary_bufs_sub .., StableHlo.nullary_bufs_sub .., StableHlo.binary_bufs_sub .., StableHlo.reshape_bufs_sub ..⟩)
    (.nil))))))))))))))

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- A list of operations leaves what it does not write. -/
theorem leaves (V : Valuation τ sig (Elt F)) {ops : List (HloOp τ sig (Elt F))} {L : List (Ref sig .tc)}
    (h : ops.Forall fun op => op.writes ⊆ (L.map (Proc.devRef (τ := τ) .tc)).toFinset) {r : Ref sig .tc} (hr : r ∉ L) :
    after ops V (no_index (Proc.devRef .tc r)) = V (Proc.devRef .tc r) :=
  after_of_writes_sub ops V h (by simpa using hr)

set_option maxRecDepth 100000 in
/-- The last stretch of the body leaves the counter one step on. -/
theorem ctr_step (X : Valuation τ sig (Elt F)) :
    after while0Ops0_2 X (Proc.devRef .tc main_v11_3) = addi (X (Proc.devRef .tc main_v11_3)) (constantI S_ 32 1#32) := by
  simp only [while0Ops0_2]
  after_results
  rfl

/-- The counter is zero when the loop is entered. -/
theorem ctr_entry (c : Dev nD) : entryContents preI m c (Proc.devRef .tc main_v11_3) = fun _ => (0#32 : BitVec 32) := by
  simp only [entryContents, afterL_cons, afterL_nil]
  after_reads_simp
  rfl

/-- Before the `k`-th condition the counter is `k`. -/
theorem atK_ctr (c : Dev nD) : ∀ k, atK m k c (Proc.devRef .tc main_v11_3) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, leaves _ while0Ops0_1_writes (by decide), leaves _ while0Ops0_writes (by decide), leaves _ condOps_writes (by decide),
      atK_ctr c k, Scf.iv_succ]
    rfl

set_option backward.isDefEq.respectTransparency.types false in
/-- The condition holds before each of the first 127 trips and fails after them. -/
theorem cond_spec : CondSpec (pcfgs (F := F)) defs₀ loops (main_while0_cond (F := F)) condOps bodyI (entryContents preI m) 127 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v11_3 HostLoop.idx0)
        (HloOp.result _ (atK m k c) main_while0c_c_29 HostLoop.idx0) = 1#1) (k < 127)
    rw [nullary_result_ne _ _ _ _ (by decide), nullary_result, hctr]
    exact Scf.cmpi_slt_iv_ub_iff (lb := 0#32) (ub := 127#32) (st := 1#32) (by decide) (show k ≤ Scf.trips 0#32 127#32 1#32 from hk)
  isplitl [Hb]; · iexact Hb
  rw [after_cons, after_cons, after_nil]; iexact Hh

set_option maxRecDepth 100000 in
/-- Every execution of the reference ends, with every buffer holding what these operations leave, the loop taken 127 times. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 127 m c (Proc.devRef .tc b)) :=
  run_loop (pcfgs (F := F)) defs₀ loops main 0 main_while0_cond main_while0_body rfl preI bodyI postI condOps hpre hbodyI hpost
    main_chain while0_body_chain 127 m ρ (cond_spec m)

end Cert.ReferenceIdeal.Value

end
-- ==== Proof.ReferenceTail.lean ====
module

public import proofs.«01_k».proof.Proof.ReferenceRun
public import proofs.«01_k».proof.Proof.Sampling

@[expose] public section
noncomputable section
namespace Cert.Proof.ReferenceTail
open Idealize.ShloMosaic Idealize.ShloMosaic.TcCoe Idealize.ShloMosaic.Tactic
open Cert.ReferenceIdeal Cert.ReferenceIdeal.Gen Cert.ReferenceIdeal.Value
open Idealize.ShloMosaic.StableHlo

variable {F : FTy → Type} [FloatOps F]

/-! ## The reference after its sampling loop, stage by stage -/

/-- The sampled points, looked up. -/
def centres (v11_6 : IVec S8x128 32) (p0 : FVec F S8x2048x3 .f32) : FVec F S8x128x3 .f32 :=
  (Host.gather gather_S8x2048x3_S8x128x1_S8x128x3_2_1_0_0_1_2_113 p0 (broadcastInDim S8x128x1 ![0, 1] bcast_S8x128_S8x128x1_0_1 (select (cmpi .slt v11_6 (broadcastInDim S8x128 ![] bcast_S_S8x128 (constantI S_ 32 0#32))) (addi v11_6 (broadcastInDim S8x128 ![] bcast_S_S8x128 (constantI S_ 32 2048#32))) v11_6)))

/-- The squared distances of every point to every sampled point, infinite behind the cloud. -/
def distances (p0 : FVec F S8x2048x3 .f32) (v18 : FVec F S8x128x3 .f32) (v5 : IVec S8x2048 1) : FVec F S8x128x2048 .f32 :=
  (select (broadcastInDim S8x128x2048 ![0, 1, 2] bcast_S8x1x2048_S8x128x2048_0_1_2 (broadcastInDim S8x1x2048 ![0, 2] bcast_S8x2048_S8x1x2048_0_2 v5)) (Host.reduceAdd (mulf (subf (broadcastInDim S8x128x2048x3 ![0, 1, 2, 3] bcast_S8x1x2048x3_S8x128x2048x3_0_1_2_3 (broadcastInDim S8x1x2048x3 ![0, 2, 3] bcast_S8x2048x3_S8x1x2048x3_0_2_3 p0)) (broadcastInDim S8x128x2048x3 ![0, 1, 2, 3] bcast_S8x128x1x3_S8x128x2048x3_0_1_2_3 (broadcastInDim S8x128x1x3 ![0, 1, 3] bcast_S8x128x3_S8x128x1x3_0_1_3 v18))) (subf (broadcastInDim S8x128x2048x3 ![0, 1, 2, 3] bcast_S8x1x2048x3_S8x128x2048x3_0_1_2_3 (broadcastInDim S8x1x2048x3 ![0, 2, 3] bcast_S8x2048x3_S8x1x2048x3_0_2_3 p0)) (broadcastInDim S8x128x2048x3 ![0, 1, 2, 3] bcast_S8x128x1x3_S8x128x2048x3_0_1_2_3 (broadcastInDim S8x128x1x3 ![0, 1, 3] bcast_S8x128x3_S8x128x1x3_0_1_3 v18)))) (constant S_ .f32 0x00000000#32) reducesTo_S8x128x2048x3_S8x128x2048_d3 h_S_) (broadcastInDim S8x128x2048 ![] bcast_S_S8x128x2048 (constant S_ .f32 0x7F800000#32)))

/-- The positions of the 32 nearest points. -/
def nearest (v29 : FVec F S8x128x2048 .f32) : IVec S8x128x32 32 :=
  ((Host.topK S8x128x32 2 (FloatOps.cmpfTotal .gt) (Host.negf v29) sliceFits_S8x128x2048_S8x128x32).2)

/-- The nearest points relative to their sampled point. -/
def groups (indices : IVec S8x128x32 32) (p0 : FVec F S8x2048x3 .f32) (v18 : FVec F S8x128x3 .f32) : FVec F S8x128x32x3 .f32 :=
  (subf (Host.gather gather_S8x2048x3_S8x128x32x1_S8x128x32x3_3_1_0_0_1_3_113 p0 (broadcastInDim S8x128x32x1 ![0, 1, 2] bcast_S8x128x32_S8x128x32x1_0_1_2 (select (cmpi .slt indices (broadcastInDim S8x128x32 ![] bcast_S_S8x128x32 (constantI S_ 32 0#32))) (addi indices (broadcastInDim S8x128x32 ![] bcast_S_S8x128x32 (constantI S_ 32 2048#32))) indices))) (broadcastInDim S8x128x32x3 ![0, 1, 2, 3] bcast_S8x128x1x3_S8x128x32x3_0_1_2_3 (broadcastInDim S8x128x1x3 ![0, 1, 3] bcast_S8x128x3_S8x128x1x3_0_1_3 v18)))

/-- Which of the nearest points lie in the cloud. -/
def admitted (indices : IVec S8x128x32 32) (v5 : IVec S8x2048 1) : IVec S8x128x32 1 :=
  (Host.gather gather_S8x2048_S8x128x32x1_S8x128x32_n_1_0_0_1_3_11 v5 (broadcastInDim S8x128x32x1 ![0, 1, 2] bcast_S8x128x32_S8x128x32x1_0_1_2 (select (cmpi .slt indices (broadcastInDim S8x128x32 ![] bcast_S_S8x128x32 (constantI S_ 32 0#32))) (addi indices (broadcastInDim S8x128x32 ![] bcast_S_S8x128x32 (constantI S_ 32 2048#32))) indices)))

/-- The visible groups. -/
def flatGroups (c : IVec S8x52 32) (v40 : FVec F S8x128x32x3 .f32) : FVec F S416x32x3 .f32 :=
  (shapeCast S416x32x3 (Host.gather gather_S8x128x32x3_S8x52x1_S8x52x32x3_23_1_0_0_1_2_11323 v40 (broadcastInDim S8x52x1 ![0, 1] bcast_S8x52_S8x52x1_0_1 (select (cmpi .slt c (broadcastInDim S8x52 ![] bcast_S_S8x52 (constantI S_ 32 0#32))) (addi c (broadcastInDim S8x52 ![] bcast_S_S8x52 (constantI S_ 32 128#32))) c))) shapeCasts_S8x52x32x3_S416x32x3)

/-- Their masks. -/
def flatMask (c : IVec S8x52 32) (v47 : IVec S8x128x32 1) : IVec S416x32 1 :=
  (shapeCast S416x32 (Host.gather gather_S8x128x32_S8x52x1_S8x52x32_2_1_0_0_1_2_1132 v47 (broadcastInDim S8x52x1 ![0, 1] bcast_S8x52_S8x52x1_0_1 (select (cmpi .slt c (broadcastInDim S8x52 ![] bcast_S_S8x52 (constantI S_ 32 0#32))) (addi c (broadcastInDim S8x52 ![] bcast_S_S8x52 (constantI S_ 32 128#32))) c))) shapeCasts_S8x52x32_S416x32)

/-- The points' features. -/
def features (v55 : FVec F S416x32x3 .f32) (p2 : FVec F S3x128 .f32) (p3 : FVec F S128 .f32) (p4 : FVec F S128x256 .f32) (p5 : FVec F S256 .f32) : FVec F S416x32x256 .f32 :=
  (addf (Host.dotGeneral dot_S416x32x128_S128x256_S416x32x256_2_0_01_1_n_n none (maximumf (addf (Host.dotGeneral dot_S416x32x3_S3x128_S416x32x128_2_0_01_1_n_n none v55 p2) (broadcastInDim S416x32x128 ![0, 1, 2] bcast_S1x1x128_S416x32x128_0_1_2 (broadcastInDim S1x1x128 ![2] bcast_S128_S1x1x128_2 p3))) (broadcastInDim S416x32x128 ![] bcast_S_S416x32x128 (constant S_ .f32 0x00000000#32))) p4) (broadcastInDim S416x32x256 ![0, 1, 2] bcast_S1x1x256_S416x32x256_0_1_2 (broadcastInDim S1x1x256 ![2] bcast_S256_S1x1x256_2 p5)))

/-- The groups' features. -/
def summary (v63 : IVec S416x32 1) (v73 : FVec F S416x32x256 .f32) : FVec F S416x256 .f32 :=
  (Host.reduce FloatOps.maximumf (select (broadcastInDim S416x32x256 ![0, 1, 2] bcast_S416x32x1_S416x32x256_0_1_2 (broadcastInDim S416x32x1 ![0, 1] bcast_S416x32_S416x32x1_0_1 v63)) v73 (broadcastInDim S416x32x256 ![] bcast_S_S416x32x256 (constant S_ .f32 0xFF800000#32))) (constant S_ .f32 0xFF800000#32) reducesTo_S416x32x256_S416x256_d1 h_S_)

/-- Each point's features beside its group's. -/
def joined (v78 : FVec F S416x256 .f32) (v73 : FVec F S416x32x256 .f32) : FVec F S416x32x512 .f32 :=
  (concatenate S416x32x512 2 [⟨S416x32x256, v73⟩, ⟨S416x32x256, (broadcastInDim S416x32x256 ![0, 1, 2] bcast_S416x1x256_S416x32x256_0_1_2 (broadcastInDim S416x1x256 ![0, 2] bcast_S416x256_S416x1x256_0_2 v78))⟩] concatenates_S416x32x256_S416x32x256_S416x32x512_d2)

/-- The last layer of every point. -/
def rows (v81 : FVec F S416x32x512 .f32) (p6 : FVec F S512x512 .f32) (p7 : FVec F S512 .f32) (p8 : FVec F S512x384 .f32) (p9 : FVec F S384 .f32) : FVec F S416x32x384 .f32 :=
  (addf (Host.dotGeneral dot_S416x32x512_S512x384_S416x32x384_2_0_01_1_n_n none (maximumf (addf (Host.dotGeneral dot_S416x32x512_S512x512_S416x32x512_2_0_01_1_n_n none v81 p6) (broadcastInDim S416x32x512 ![0, 1, 2] bcast_S1x1x512_S416x32x512_0_1_2 (broadcastInDim S1x1x512 ![2] bcast_S512_S1x1x512_2 p7))) (broadcastInDim S416x32x512 ![] bcast_S_S416x32x512 (constant S_ .f32 0x00000000#32))) p8) (broadcastInDim S416x32x384 ![0, 1, 2] bcast_S1x1x384_S416x32x384_0_1_2 (broadcastInDim S1x1x384 ![2] bcast_S384_S1x1x384_2 p9)))

/-- The tokens. -/
def answer (v63 : IVec S416x32 1) (v91 : FVec F S416x32x384 .f32) : FVec F S8x52x384 .f32 :=
  (shapeCast S8x52x384 (Host.reduce FloatOps.maximumf (select (broadcastInDim S416x32x384 ![0, 1, 2] bcast_S416x32x1_S416x32x384_0_1_2 (broadcastInDim S416x32x1 ![0, 1] bcast_S416x32_S416x32x1_0_1 v63)) v91 (broadcastInDim S416x32x384 ![] bcast_S_S416x32x384 (constant S_ .f32 0xFF800000#32))) (constant S_ .f32 0xFF800000#32) reducesTo_S416x32x384_S416x384_d1 h_S_) shapeCasts_S416x384_S8x52x384)

/-! ## What the parts of the operations after the loop compute -/

variable (W : Valuation τ sig (Elt F))

/-- The stage `centres` of the contents before the tail. -/
def centresAt : FVec F S8x128x3 .f32 := centres (W (Proc.devRef .tc main_v11_6)) (W (Proc.devRef .tc main_arg0))

/-- The stage `distances` of the contents before the tail. -/
def distancesAt : FVec F S8x128x2048 .f32 := distances (W (Proc.devRef .tc main_arg0)) (centresAt W) (W (Proc.devRef .tc main_v5))

/-- The stage `nearest` of the contents before the tail. -/
def nearestAt : IVec S8x128x32 32 := nearest (distancesAt W)

/-- The stage `groups` of the contents before the tail. -/
def groupsAt : FVec F S8x128x32x3 .f32 := groups (nearestAt W) (W (Proc.devRef .tc main_arg0)) (centresAt W)

/-- The stage `admitted` of the contents before the tail. -/
def admittedAt : IVec S8x128x32 1 := admitted (nearestAt W) (W (Proc.devRef .tc main_v5))

/-- The stage `flatGroups` of the contents before the tail. -/
def flatGroupsAt : FVec F S416x32x3 .f32 := flatGroups (W (Proc.devRef .tc main_c)) (groupsAt W)

/-- The stage `flatMask` of the contents before the tail. -/
def flatMaskAt : IVec S416x32 1 := flatMask (W (Proc.devRef .tc main_c)) (admittedAt W)

/-- The stage `features` of the contents before the tail. -/
def featuresAt : FVec F S416x32x256 .f32 := features (flatGroupsAt W) (W (Proc.devRef .tc main_arg2)) (W (Proc.devRef .tc main_arg3)) (W (Proc.devRef .tc main_arg4)) (W (Proc.devRef .tc main_arg5))

/-- The stage `summary` of the contents before the tail. -/
def summaryAt : FVec F S416x256 .f32 := summary (flatMaskAt W) (featuresAt W)

/-- The stage `joined` of the contents before the tail. -/
def joinedAt : FVec F S416x32x512 .f32 := joined (summaryAt W) (featuresAt W)

/-- The stage `rows` of the contents before the tail. -/
def rowsAt : FVec F S416x32x384 .f32 := rows (joinedAt W) (W (Proc.devRef .tc main_arg6)) (W (Proc.devRef .tc main_arg7)) (W (Proc.devRef .tc main_arg8)) (W (Proc.devRef .tc main_arg9))

/-- The stage `answer` of the contents before the tail. -/
def answerAt : FVec F S8x52x384 .f32 := answer (flatMaskAt W) (rowsAt W)

set_option maxRecDepth 8192 in
set_option maxHeartbeats 1000000 in
/-- The stage `centres`. -/
theorem does_centres : after win0 W (no_index (Proc.devRef .tc main_v18)) = centres (W (Proc.devRef .tc main_v11_6)) (W (Proc.devRef .tc main_arg0)) := by
  unfold centres
  simp only [win0]
  after_results_entrywise [cast_eq]

set_option maxRecDepth 8192 in
set_option maxHeartbeats 1000000 in
/-- The stage `distances`. -/
theorem does_distances : after win1 W (no_index (Proc.devRef .tc main_v29)) = distances (W (Proc.devRef .tc main_arg0)) (W (Proc.devRef .tc main_v18)) (W (Proc.devRef .tc main_v5)) := by
  unfold distances
  simp only [win1]
  after_results_entrywise [cast_eq]

set_option maxRecDepth 8192 in
set_option maxHeartbeats 1000000 in
/-- The stage `nearest`. -/
theorem does_nearest : after win2 W (no_index (Proc.devRef .tc main_indices)) = nearest (W (Proc.devRef .tc main_v29)) := by
  unfold nearest
  simp only [win2]
  after_results_entrywise [cast_eq]

set_option maxRecDepth 8192 in
set_option maxHeartbeats 1000000 in
/-- The stage `groups`. -/
theorem does_groups : after win3b (after win3a W) (no_index (Proc.devRef .tc main_v40)) = groups (W (Proc.devRef .tc main_indices)) (W (Proc.devRef .tc main_arg0)) (W (Proc.devRef .tc main_v18)) := by
  unfold groups
  simp only [win3a, win3b]
  after_results_entrywise [cast_eq]

set_option maxRecDepth 8192 in
set_option maxHeartbeats 1000000 in
/-- The stage `admitted`. -/
theorem does_admitted : after win4 W (no_index (Proc.devRef .tc main_v47)) = admitted (W (Proc.devRef .tc main_indices)) (W (Proc.devRef .tc main_v5)) := by
  unfold admitted
  simp only [win4]
  after_results_entrywise [cast_eq]

set_option maxRecDepth 8192 in
set_option maxHeartbeats 1000000 in
/-- The stage `flatGroups`. -/
theorem does_flatGroups : after win5 W (no_index (Proc.devRef .tc main_v55)) = flatGroups (W (Proc.devRef .tc main_c)) (W (Proc.devRef .tc main_v40)) := by
  unfold flatGroups
  simp only [win5]
  after_results_entrywise [cast_eq]

set_option maxRecDepth 8192 in
set_option maxHeartbeats 1000000 in
/-- The stage `flatMask`. -/
theorem does_flatMask : after win6 W (no_index (Proc.devRef .tc main_v63)) = flatMask (W (Proc.devRef .tc main_c)) (W (Proc.devRef .tc main_v47)) := by
  unfold flatMask
  simp only [win6]
  after_results_entrywise [cast_eq]

set_option maxRecDepth 8192 in
set_option maxHeartbeats 1000000 in
/-- The stage `features`. -/
theorem does_features : after win7 W (no_index (Proc.devRef .tc main_v73)) = features (W (Proc.devRef .tc main_v55)) (W (Proc.devRef .tc main_arg2)) (W (Proc.devRef .tc main_arg3)) (W (Proc.devRef .tc main_arg4)) (W (Proc.devRef .tc main_arg5)) := by
  unfold features
  simp only [win7]
  after_results_entrywise [cast_eq]

set_option maxRecDepth 8192 in
set_option maxHeartbeats 1000000 in
/-- The stage `summary`. -/
theorem does_summary : after win8 W (no_index (Proc.devRef .tc main_v78)) = summary (W (Proc.devRef .tc main_v63)) (W (Proc.devRef .tc main_v73)) := by
  unfold summary
  simp only [win8]
  after_results_entrywise [cast_eq]

set_option maxRecDepth 8192 in
set_option maxHeartbeats 1000000 in
/-- The stage `joined`. -/
theorem does_joined : after win9 W (no_index (Proc.devRef .tc main_v81)) = joined (W (Proc.devRef .tc main_v78)) (W (Proc.devRef .tc main_v73)) := by
  unfold joined
  simp only [win9]
  after_results_entrywise [cast_eq]

set_option maxRecDepth 8192 in
set_option maxHeartbeats 1000000 in
/-- The stage `rows`. -/
theorem does_rows : after win10b (after win10a W) (no_index (Proc.devRef .tc main_v91)) = rows (W (Proc.devRef .tc main_v81)) (W (Proc.devRef .tc main_arg6)) (W (Proc.devRef .tc main_arg7)) (W (Proc.devRef .tc main_arg8)) (W (Proc.devRef .tc main_arg9)) := by
  unfold rows
  simp only [win10a, win10b]
  after_results_entrywise [cast_eq]

set_option maxRecDepth 8192 in
set_option maxHeartbeats 1000000 in
/-- The stage `answer`. -/
theorem does_answer : after win11 W (no_index (Proc.devRef .tc main_v97)) = answer (W (Proc.devRef .tc main_v63)) (W (Proc.devRef .tc main_v91)) := by
  unfold answer
  simp only [win11]
  after_results_entrywise [cast_eq]

set_option maxRecDepth 100000 in
/-- What the operations after the loop leave in the result, from any contents. -/
theorem tail_eq : afterL postI W (Proc.devRef .tc main_v97) = answerAt W := by
  simp only [afterL_cons, afterL_nil]
  simp (disch := decide) only [does_centres, does_distances, does_nearest, does_groups, does_admitted, does_flatGroups, does_flatMask, does_features, does_summary, does_joined, does_rows, does_answer,
    leaves _ win0_writes, leaves _ win1_writes, leaves _ win2_writes, leaves _ win3a_writes, leaves _ win3b_writes, leaves _ win4_writes, leaves _ win5_writes, leaves _ win6_writes, leaves _ win7_writes, leaves _ win8_writes, leaves _ win9_writes, leaves _ win10a_writes, leaves _ win10b_writes, leaves _ win11_writes]
  rfl

end Cert.Proof.ReferenceTail
-- ==== Proof.ReferenceReads.lean ====
module

public import proofs.«01_k».proof.Proof.ReferenceTail

@[expose] public section
noncomputable section
namespace Cert.Proof.ReferenceReads
open Idealize.ShloMosaic
open Cert.ReferenceIdeal Cert.ReferenceIdeal.Gen

/-! ## The reference's look-ups -/

variable {α : Type}

/-- A word read as a place among `N`. -/
def place (N : ℕ) (hN : 0 < N) (v : BitVec 32) : Fin N := ⟨min v.toInt.toNat (N - 1), by omega⟩

/-- The word of a place is read as that place. -/
theorem place_word {N : ℕ} (hN : 0 < N) (hN' : N ≤ 2 ^ 31) (i : Fin N) : place N hN (BitVec.ofNat 32 i.val) = i := by
  apply Fin.ext
  show min (BitVec.ofNat 32 i.val).toInt.toNat (N - 1) = i.val
  have h := i.isLt
  rw [BitVec.toInt_eq_toNat_of_lt (by rw [BitVec.toNat_ofNat]; omega), BitVec.toNat_ofNat, Int.toNat_natCast]
  omega

/-- The word of a place is not negative, so the shift of negative words leaves it. -/
theorem wrapped {N : ℕ} (hN' : N ≤ 2 ^ 31) (i : Fin N) (n : BitVec 32) :
    Scalar.select (IntOp.cmpi .slt (BitVec.ofNat 32 i.val) 0#32) (IntOp.addi (BitVec.ofNat 32 i.val) n) (BitVec.ofNat 32 i.val)
      = BitVec.ofNat 32 i.val := by
  have h := i.isLt
  have : IntOp.cmpi .slt (BitVec.ofNat 32 i.val) 0#32 = 0#1 := by
    show BitVec.ofBool (BitVec.slt _ _) = 0#1
    rw [BitVec.slt_eq_decide, BitVec.toInt_eq_toNat_of_lt (by rw [BitVec.toNat_ofNat]; omega)]
    rw [decide_eq_false (by simp; omega)]
    rfl
  rw [this]
  rfl

section Places

variable {s si t : Shape} (d : GatherDims s si t)

/-- The start index's coordinate on axis `b` is the result's coordinate on the batch axis paired with `b`. -/
theorem paired (j : t.Idx) {b : Fin si.rank} (hb : b ∈ d.siKept) {l : Fin t.rank}
    (h : d.batchDims[d.siKept.idxOf b]? = some l) : (d.siCoord j b hb).val = (j l).val :=
  congrArg (fun k => (j k).val) (List.getElem?_eq_some_iff.1 h).2

/-- So also for the whole start index, off the axis that holds its components. -/
theorem paired_at (j : t.Idx) (c : Fin d.startIndexMap.length) {b : Fin si.rank} (hb : b.val ≠ d.indexVectorDim) {l : Fin t.rank}
    (h : d.batchDims[d.siKept.idxOf b]? = some l) : (d.siIdx j c b).val = (j l).val := by
  unfold GatherDims.siIdx
  rw [dif_neg hb]
  exact paired d j _ h

/-- On a batching axis a look-up reads at the result's own coordinate. -/
theorem on_batching (j : t.Idx) (v : IVec si 32) {a : Fin s.rank} (ha : a ∈ d.operandBatchingDims) {b : Fin si.rank}
    (hb : d.startIndicesBatchingDims[d.operandBatchingDims.idxOf a]? = some b) {l : Fin t.rank}
    (h : d.batchDims[d.siKept.idxOf b]? = some l) : (d.operandIdx j v a).val = (j l).val := by
  obtain ⟨hlt, rfl⟩ := List.getElem?_eq_some_iff.1 hb
  show d.start j v a + d.batchCoord j a + d.offCoord j a = _
  rw [d.start_batching j v a ha, d.offCoord_eq_zero j a fun hk => ((d.mem_sKept a).1 hk).2 ha, GatherDims.batchCoord, dif_pos ha]
  simp only [Nat.zero_add, Nat.add_zero]
  exact paired d j _ h

/-- On the collapsed axis a look-up reads at the place its index names. -/
theorem on_indexed (j : t.Idx) (v : IVec si 32) {a : Fin s.rank} (ha : d.startIndexMap = [a]) (hc : a ∈ d.collapsedSliceDims)
    {i : si.Idx} (hi : ∀ c, d.siIdx j c = i) (hN : 0 < s.size a) : d.operandIdx j v a = place (s.size a) hN (v i) := by
  have hm : a ∈ d.startIndexMap := by rw [ha]; exact List.mem_singleton.2 rfl
  apply Fin.ext
  show d.start j v a + d.batchCoord j a + d.offCoord j a = min (v i).toInt.toNat (s.size a - 1)
  rw [d.batchCoord_eq_zero j a (d.sim_disjoint a hm), d.offCoord_eq_zero j a fun hk => ((d.mem_sKept a).1 hk).1 hc,
    GatherDims.start, dif_pos hm, hi, d.slice_collapsed a hc]
  rfl

/-- On an axis that is taken whole a look-up reads at the result's own coordinate. -/
theorem on_whole (j : t.Idx) (v : IVec si 32) {a : Fin s.rank} (hs : a ∉ d.startIndexMap) (ha : a ∈ d.sKept) {l : Fin t.rank}
    (h : d.offsetDims[d.sKept.idxOf a]? = some l) : (d.operandIdx j v a).val = (j l).val := by
  show d.start j v a + d.batchCoord j a + d.offCoord j a = _
  rw [d.batchCoord_eq_zero j a ((d.mem_sKept a).1 ha).2, GatherDims.start, dif_neg hs, GatherDims.offCoord, dif_pos ha]
  simp only [Nat.zero_add, Nat.add_zero]
  exact congrArg (fun k => (j k).val) (List.getElem?_eq_some_iff.1 h).2

end Places

/-- The look-up of one point of each cloud. -/
theorem look_point (x : S8x2048x3.Idx → α) (v : IVec S8x1x1 32) (b : Fin 8) (u : Fin 1) (a : Fin 3) :
    Host.gather gather_S8x2048x3_S8x1x1_S8x1x3_2_1_0_0_1_2_113 x v (ix3 b u a) = x (ix3 b (place 2048 (by decide) (v (ix3 b u 0))) a) := by
  have hv : ∀ c, gather_S8x2048x3_S8x1x1_S8x1x3_2_1_0_0_1_2_113.siIdx (ix3 b u a) c = ix3 b u 0 := by
    intro c
    funext l
    match l with
    | ⟨0, _⟩ => exact Fin.ext (paired_at gather_S8x2048x3_S8x1x1_S8x1x3_2_1_0_0_1_2_113 _ _ (b := (0 : Fin 3)) (l := (0 : Fin 3)) (by decide) (by decide +kernel))
    | ⟨1, _⟩ => exact Fin.ext (paired_at gather_S8x2048x3_S8x1x1_S8x1x3_2_1_0_0_1_2_113 _ _ (b := (1 : Fin 3)) (l := (1 : Fin 3)) (by decide) (by decide +kernel))
    | ⟨2, _⟩ => exact Subsingleton.elim (α := Fin 1) _ _
  unfold Host.gather
  congr 1
  funext k
  match k with
  | ⟨0, _⟩ => exact Fin.ext (on_batching gather_S8x2048x3_S8x1x1_S8x1x3_2_1_0_0_1_2_113 _ v (a := (0 : Fin 3)) (b := (0 : Fin 3)) (l := (0 : Fin 3)) (by decide) (by decide) (by decide +kernel))
  | ⟨1, _⟩ => exact on_indexed gather_S8x2048x3_S8x1x1_S8x1x3_2_1_0_0_1_2_113 _ v (a := (1 : Fin 3)) rfl (by decide) hv (by decide)
  | ⟨2, _⟩ => exact Fin.ext (on_whole gather_S8x2048x3_S8x1x1_S8x1x3_2_1_0_0_1_2_113 _ v (a := (2 : Fin 3)) (l := (2 : Fin 3)) (by decide) (by decide +kernel) (by decide +kernel))

/-- The look-up of the sampled points. -/
theorem look_points (x : S8x2048x3.Idx → α) (v : IVec S8x128x1 32) (b : Fin 8) (u : Fin 128) (a : Fin 3) :
    Host.gather gather_S8x2048x3_S8x128x1_S8x128x3_2_1_0_0_1_2_113 x v (ix3 b u a) = x (ix3 b (place 2048 (by decide) (v (ix3 b u 0))) a) := by
  have hv : ∀ c, gather_S8x2048x3_S8x128x1_S8x128x3_2_1_0_0_1_2_113.siIdx (ix3 b u a) c = ix3 b u 0 := by
    intro c
    funext l
    match l with
    | ⟨0, _⟩ => exact Fin.ext (paired_at gather_S8x2048x3_S8x128x1_S8x128x3_2_1_0_0_1_2_113 _ _ (b := (0 : Fin 3)) (l := (0 : Fin 3)) (by decide) (by decide +kernel))
    | ⟨1, _⟩ => exact Fin.ext (paired_at gather_S8x2048x3_S8x128x1_S8x128x3_2_1_0_0_1_2_113 _ _ (b := (1 : Fin 3)) (l := (1 : Fin 3)) (by decide) (by decide +kernel))
    | ⟨2, _⟩ => exact Subsingleton.elim (α := Fin 1) _ _
  unfold Host.gather
  congr 1
  funext k
  match k with
  | ⟨0, _⟩ => exact Fin.ext (on_batching gather_S8x2048x3_S8x128x1_S8x128x3_2_1_0_0_1_2_113 _ v (a := (0 : Fin 3)) (b := (0 : Fin 3)) (l := (0 : Fin 3)) (by decide) (by decide) (by decide +kernel))
  | ⟨1, _⟩ => exact on_indexed gather_S8x2048x3_S8x128x1_S8x128x3_2_1_0_0_1_2_113 _ v (a := (1 : Fin 3)) rfl (by decide) hv (by decide)
  | ⟨2, _⟩ => exact Fin.ext (on_whole gather_S8x2048x3_S8x128x1_S8x128x3_2_1_0_0_1_2_113 _ v (a := (2 : Fin 3)) (l := (2 : Fin 3)) (by decide) (by decide +kernel) (by decide +kernel))

/-- The look-up of the nearest points. -/
theorem look_groups (x : S8x2048x3.Idx → α) (v : IVec S8x128x32x1 32) (b : Fin 8) (u : Fin 128) (r : Fin 32) (a : Fin 3) :
    Host.gather gather_S8x2048x3_S8x128x32x1_S8x128x32x3_3_1_0_0_1_3_113 x v (ix4 b u r a) = x (ix3 b (place 2048 (by decide) (v (ix4 b u r 0))) a) := by
  have hv : ∀ c, gather_S8x2048x3_S8x128x32x1_S8x128x32x3_3_1_0_0_1_3_113.siIdx (ix4 b u r a) c = ix4 b u r 0 := by
    intro c
    funext l
    match l with
    | ⟨0, _⟩ => exact Fin.ext (paired_at gather_S8x2048x3_S8x128x32x1_S8x128x32x3_3_1_0_0_1_3_113 _ _ (b := (0 : Fin 4)) (l := (0 : Fin 4)) (by decide) (by decide +kernel))
    | ⟨1, _⟩ => exact Fin.ext (paired_at gather_S8x2048x3_S8x128x32x1_S8x128x32x3_3_1_0_0_1_3_113 _ _ (b := (1 : Fin 4)) (l := (1 : Fin 4)) (by decide) (by decide +kernel))
    | ⟨2, _⟩ => exact Fin.ext (paired_at gather_S8x2048x3_S8x128x32x1_S8x128x32x3_3_1_0_0_1_3_113 _ _ (b := (2 : Fin 4)) (l := (2 : Fin 4)) (by decide) (by decide +kernel))
    | ⟨3, _⟩ => exact Subsingleton.elim (α := Fin 1) _ _
  unfold Host.gather
  congr 1
  funext k
  match k with
  | ⟨0, _⟩ => exact Fin.ext (on_batching gather_S8x2048x3_S8x128x32x1_S8x128x32x3_3_1_0_0_1_3_113 _ v (a := (0 : Fin 3)) (b := (0 : Fin 4)) (l := (0 : Fin 4)) (by decide) (by decide) (by decide +kernel))
  | ⟨1, _⟩ => exact on_indexed gather_S8x2048x3_S8x128x32x1_S8x128x32x3_3_1_0_0_1_3_113 _ v (a := (1 : Fin 3)) rfl (by decide) hv (by decide)
  | ⟨2, _⟩ => exact Fin.ext (on_whole gather_S8x2048x3_S8x128x32x1_S8x128x32x3_3_1_0_0_1_3_113 _ v (a := (2 : Fin 3)) (l := (3 : Fin 4)) (by decide) (by decide +kernel) (by decide +kernel))

/-- The look-up of their masks. -/
theorem look_masks (x : S8x2048.Idx → α) (v : IVec S8x128x32x1 32) (b : Fin 8) (u : Fin 128) (r : Fin 32) :
    Host.gather gather_S8x2048_S8x128x32x1_S8x128x32_n_1_0_0_1_3_11 x v (ix3 b u r) = x (ix2 b (place 2048 (by decide) (v (ix4 b u r 0)))) := by
  have hv : ∀ c, gather_S8x2048_S8x128x32x1_S8x128x32_n_1_0_0_1_3_11.siIdx (ix3 b u r) c = ix4 b u r 0 := by
    intro c
    funext l
    match l with
    | ⟨0, _⟩ => exact Fin.ext (paired_at gather_S8x2048_S8x128x32x1_S8x128x32_n_1_0_0_1_3_11 _ _ (b := (0 : Fin 4)) (l := (0 : Fin 3)) (by decide) (by decide +kernel))
    | ⟨1, _⟩ => exact Fin.ext (paired_at gather_S8x2048_S8x128x32x1_S8x128x32_n_1_0_0_1_3_11 _ _ (b := (1 : Fin 4)) (l := (1 : Fin 3)) (by decide) (by decide +kernel))
    | ⟨2, _⟩ => exact Fin.ext (paired_at gather_S8x2048_S8x128x32x1_S8x128x32_n_1_0_0_1_3_11 _ _ (b := (2 : Fin 4)) (l := (2 : Fin 3)) (by decide) (by decide +kernel))
    | ⟨3, _⟩ => exact Subsingleton.elim (α := Fin 1) _ _
  unfold Host.gather
  congr 1
  funext k
  match k with
  | ⟨0, _⟩ => exact Fin.ext (on_batching gather_S8x2048_S8x128x32x1_S8x128x32_n_1_0_0_1_3_11 _ v (a := (0 : Fin 2)) (b := (0 : Fin 4)) (l := (0 : Fin 3)) (by decide) (by decide) (by decide +kernel))
  | ⟨1, _⟩ => exact on_indexed gather_S8x2048_S8x128x32x1_S8x128x32_n_1_0_0_1_3_11 _ v (a := (1 : Fin 2)) rfl (by decide) hv (by decide)

/-- The look-up of the visible groups. -/
theorem look_visible (x : S8x128x32x3.Idx → α) (v : IVec S8x52x1 32) (b : Fin 8) (u : Fin 52) (r : Fin 32) (a : Fin 3) :
    Host.gather gather_S8x128x32x3_S8x52x1_S8x52x32x3_23_1_0_0_1_2_11323 x v (ix4 b u r a) = x (ix4 b (place 128 (by decide) (v (ix3 b u 0))) r a) := by
  have hv : ∀ c, gather_S8x128x32x3_S8x52x1_S8x52x32x3_23_1_0_0_1_2_11323.siIdx (ix4 b u r a) c = ix3 b u 0 := by
    intro c
    funext l
    match l with
    | ⟨0, _⟩ => exact Fin.ext (paired_at gather_S8x128x32x3_S8x52x1_S8x52x32x3_23_1_0_0_1_2_11323 _ _ (b := (0 : Fin 3)) (l := (0 : Fin 4)) (by decide) (by decide +kernel))
    | ⟨1, _⟩ => exact Fin.ext (paired_at gather_S8x128x32x3_S8x52x1_S8x52x32x3_23_1_0_0_1_2_11323 _ _ (b := (1 : Fin 3)) (l := (1 : Fin 4)) (by decide) (by decide +kernel))
    | ⟨2, _⟩ => exact Subsingleton.elim (α := Fin 1) _ _
  unfold Host.gather
  congr 1
  funext k
  match k with
  | ⟨0, _⟩ => exact Fin.ext (on_batching gather_S8x128x32x3_S8x52x1_S8x52x32x3_23_1_0_0_1_2_11323 _ v (a := (0 : Fin 4)) (b := (0 : Fin 3)) (l := (0 : Fin 4)) (by decide) (by decide) (by decide +kernel))
  | ⟨1, _⟩ => exact on_indexed gather_S8x128x32x3_S8x52x1_S8x52x32x3_23_1_0_0_1_2_11323 _ v (a := (1 : Fin 4)) rfl (by decide) hv (by decide)
  | ⟨2, _⟩ => exact Fin.ext (on_whole gather_S8x128x32x3_S8x52x1_S8x52x32x3_23_1_0_0_1_2_11323 _ v (a := (2 : Fin 4)) (l := (2 : Fin 4)) (by decide) (by decide +kernel) (by decide +kernel))
  | ⟨3, _⟩ => exact Fin.ext (on_whole gather_S8x128x32x3_S8x52x1_S8x52x32x3_23_1_0_0_1_2_11323 _ v (a := (3 : Fin 4)) (l := (3 : Fin 4)) (by decide) (by decide +kernel) (by decide +kernel))

/-- The look-up of their masks. -/
theorem look_visible_masks (x : S8x128x32.Idx → α) (v : IVec S8x52x1 32) (b : Fin 8) (u : Fin 52) (r : Fin 32) :
    Host.gather gather_S8x128x32_S8x52x1_S8x52x32_2_1_0_0_1_2_1132 x v (ix3 b u r) = x (ix3 b (place 128 (by decide) (v (ix3 b u 0))) r) := by
  have hv : ∀ c, gather_S8x128x32_S8x52x1_S8x52x32_2_1_0_0_1_2_1132.siIdx (ix3 b u r) c = ix3 b u 0 := by
    intro c
    funext l
    match l with
    | ⟨0, _⟩ => exact Fin.ext (paired_at gather_S8x128x32_S8x52x1_S8x52x32_2_1_0_0_1_2_1132 _ _ (b := (0 : Fin 3)) (l := (0 : Fin 3)) (by decide) (by decide +kernel))
    | ⟨1, _⟩ => exact Fin.ext (paired_at gather_S8x128x32_S8x52x1_S8x52x32_2_1_0_0_1_2_1132 _ _ (b := (1 : Fin 3)) (l := (1 : Fin 3)) (by decide) (by decide +kernel))
    | ⟨2, _⟩ => exact Subsingleton.elim (α := Fin 1) _ _
  unfold Host.gather
  congr 1
  funext k
  match k with
  | ⟨0, _⟩ => exact Fin.ext (on_batching gather_S8x128x32_S8x52x1_S8x52x32_2_1_0_0_1_2_1132 _ v (a := (0 : Fin 3)) (b := (0 : Fin 3)) (l := (0 : Fin 3)) (by decide) (by decide) (by decide +kernel))
  | ⟨1, _⟩ => exact on_indexed gather_S8x128x32_S8x52x1_S8x52x32_2_1_0_0_1_2_1132 _ v (a := (1 : Fin 3)) rfl (by decide) hv (by decide)
  | ⟨2, _⟩ => exact Fin.ext (on_whole gather_S8x128x32_S8x52x1_S8x52x32_2_1_0_0_1_2_1132 _ v (a := (2 : Fin 3)) (l := (2 : Fin 3)) (by decide) (by decide +kernel) (by decide +kernel))

end Cert.Proof.ReferenceReads
-- ==== Proof.ReferenceLoop.lean ====
module

public import proofs.«01_k».proof.Proof.ReferenceReads

@[expose] public section
noncomputable section
namespace Cert.Proof.ReferenceLoop
open Idealize.ShloMosaic Idealize.ShloMosaic.TcCoe Idealize.ShloMosaic.Tactic
open Cert.ReferenceIdeal Cert.ReferenceIdeal.Gen Cert.ReferenceIdeal.Value
open Idealize.ShloMosaic.StableHlo
open Cert.Proof.Select Cert.Proof.Sampling Cert.Proof.ReferenceReads

/-! ## The reference's sampling loop -/

variable (p0 : FVec Ideal S8x2048x3 .f32) (p1 : IVec S8 32)

/-- The points of cloud `b`. -/
def cloud (b : Fin 8) (n : Fin 2048) (a : Fin 3) : EReal := p0 (ix3 b n a)

/-- The length of cloud `b`. -/
def size (b : Fin 8) : BitVec 32 := p1 (ix1 b)

/-- What the loop carries after `k` rounds. -/
structure Carried (k : ℕ) (V : Valuation τ sig (Elt Ideal)) : Prop where
  points : V (Proc.devRef .tc main_v11_0) = p0
  far : V (Proc.devRef .tc main_v11_1) = (fun _ => ⊤ : S8x2048.Idx → EReal)
  mask : V (Proc.devRef .tc main_v11_2) = (fun i => valid (size p1 (i 0)) (i 1) : S8x2048.Idx → BitVec 1)
  count : V (Proc.devRef .tc main_v11_4) = (fun _ => BitVec.ofNat 32 (1 + k) : S_.Idx → BitVec 32)
  dist : V (Proc.devRef .tc main_v11_5) = (fun i => (rounds (cloud p0 (i 0)) (size p1 (i 0)) k).1 (i 1) : S8x2048.Idx → EReal)
  last : V (Proc.devRef .tc main_v11_7) = (fun i => BitVec.ofNat 32 (rounds (cloud p0 (i 0)) (size p1 (i 0)) k).2.val : S8.Idx → BitVec 32)
  taken : V (Proc.devRef .tc main_v11_6) = (fun i => if (i 1 : Fin 128).val ≤ k then
    BitVec.ofNat 32 (sampled (cloud p0 (i 0)) (size p1 (i 0)) (i 1 : Fin 128).val).val else 0#32 : S8x128.Idx → BitVec 32)

/-! ## What one trip computes -/

/-- The positions sampled last, as a column. -/
def column (last : IVec S8 32) : IVec S8x1 32 := broadcastInDim S8x1 ![0] bcast_S8_S8x1_0 last

/-- The points less the point sampled last. -/
def offsets (p : FVec Ideal S8x2048x3 .f32) (last : IVec S8 32) : FVec Ideal S8x2048x3 .f32 :=
  subf p (broadcastInDim S8x2048x3 ![0, 1, 2] bcast_S8x1x3_S8x2048x3_0_1_2 (Host.gather gather_S8x2048x3_S8x1x1_S8x1x3_2_1_0_0_1_2_113 p
    (broadcastInDim S8x1x1 ![0, 1] bcast_S8x1_S8x1x1_0_1 (select (cmpi .slt (column last) (broadcastInDim S8x1 ![] bcast_S_S8x1 (constantI S_ 32 0#32)))
      (addi (column last) (broadcastInDim S8x1 ![] bcast_S_S8x1 (constantI S_ 32 2048#32))) (column last)))))

/-- The distances to the points sampled, once the last of them is taken into account. -/
def shrunk (p : FVec Ideal S8x2048x3 .f32) (far : FVec Ideal S8x2048 .f32) (mask : IVec S8x2048 1) (dist : FVec Ideal S8x2048 .f32)
    (last : IVec S8 32) : FVec Ideal S8x2048 .f32 :=
  select mask (minimumf dist (Host.reduceAdd (mulf (offsets p last) (offsets p last)) (constant S_ .f32 0x00000000#32)
    reducesTo_S8x2048x3_S8x2048_d2 h_S_)) (Host.negf far)

/-- The positions of the greatest distances. -/
def farthest (d : FVec Ideal S8x2048 .f32) : IVec S8 32 :=
  fun j => (Host.argReduce reducer_argmax_f32_i32 d (iotaInDim S8x2048 32 1) (constant S_ .f32 0xFF800000#32) (constantI S_ 32 0#32)
    reducesTo_S8x2048_S8_d1 h_S_ j).2

/-- The positions sampled, with the next ones written at place `count`. -/
def noted (count : IVec S_ 32) (taken : IVec S8x128 32) (next : IVec S8 32) : IVec S8x128 32 :=
  select (cmpi .eq (iotaInDim S8x128 32 1) (broadcastInDim S8x128 ![] bcast_S_S8x128 (id count)))
    (broadcastInDim S8x128 ![0, 1] bcast_S8x1_S8x128_0_1 (column next)) taken

variable (V : Valuation τ sig (Elt Ideal))

/-- The contents after one trip: the condition's operations, then the body's. -/
def trip : Valuation τ sig (Elt Ideal) := afterL bodyI (after condOps V)

/-- A trip leaves what none of its operations writes. -/
theorem trip_leaves {r : Ref sig .tc} (h0 : r ∉ condOps_W) (h1 : r ∉ while0Ops0_W) (h2 : r ∉ while0Ops0_1_W) (h3 : r ∉ while0Ops0_2_W) :
    trip V (Proc.devRef .tc r) = V (Proc.devRef .tc r) := by
  simp only [trip, afterL_cons, afterL_nil]
  rw [leaves _ while0Ops0_2_writes h3, leaves _ while0Ops0_1_writes h2, leaves _ while0Ops0_writes h1, leaves _ condOps_writes h0]

/-- The first stretch adds one to the count. -/
theorem first_count : after while0Ops0 V (Proc.devRef .tc main_while0b_v98) = addi (V (Proc.devRef .tc main_v11_4)) (constantI S_ 32 1#32) := by
  simp only [while0Ops0]
  after_results

set_option maxRecDepth 8192 in
set_option maxHeartbeats 2000000 in
/-- The first stretch computes the distances. -/
theorem first_dist : after while0Ops0 V (Proc.devRef .tc main_while0b_v113)
    = shrunk (V (Proc.devRef .tc main_v11_0)) (V (Proc.devRef .tc main_v11_1)) (V (Proc.devRef .tc main_v11_2)) (V (Proc.devRef .tc main_v11_5))
      (V (Proc.devRef .tc main_v11_7)) := by
  unfold shrunk offsets column
  simp only [while0Ops0]
  after_results_entrywise [cast_eq]

set_option maxRecDepth 8192 in
/-- The second stretch finds the farthest points. -/
theorem second_next : after while0Ops0_1 V (Proc.devRef .tc main_while0b_v114) = farthest (V (Proc.devRef .tc main_while0b_v113)) := by
  unfold farthest
  simp only [while0Ops0_1]
  after_results_entrywise [cast_eq]

set_option maxRecDepth 8192 in
/-- The third stretch notes the points found, -/
theorem third_taken : after while0Ops0_2 V (Proc.devRef .tc main_v11_6)
    = noted (V (Proc.devRef .tc main_v11_4)) (V (Proc.devRef .tc main_v11_6)) (V (Proc.devRef .tc main_while0b_v114)) := by
  simp only [while0Ops0_2]
  after_results
  rfl

set_option maxRecDepth 8192 in
/-- and hands on the count, the distances and the points found. -/
theorem third_moves : after while0Ops0_2 V (Proc.devRef .tc main_v11_4) = V (Proc.devRef .tc main_while0b_v98)
    ∧ after while0Ops0_2 V (Proc.devRef .tc main_v11_5) = V (Proc.devRef .tc main_while0b_v113)
    ∧ after while0Ops0_2 V (Proc.devRef .tc main_v11_7) = V (Proc.devRef .tc main_while0b_v114) := by
  simp only [while0Ops0_2]
  refine ⟨?_, ?_, ?_⟩ <;> · after_results; rfl

/-- The reducer of the reference's arg-max keeps the better of two candidates. -/
theorem reducer_eq (a b : Ideal .f32 × BitVec 32) : reducer_argmax_f32_i32 (F := Ideal) a b = better a b := by
  unfold reducer_argmax_f32_i32 better
  simp only [Ideal.cmpf_def, Ideal.cmp, IntOp.cmpi, IntOp.ori, IntOp.andi, Scalar.select]
  by_cases h1 : b.1 < a.1
  · have h4 : ∀ x : BitVec 1, (1#1 ||| x) = 1#1 := by decide
    simp [h1, h4]
  · by_cases h2 : a.1 = b.1
    · by_cases h3 : a.2.slt b.2 = true <;> simp [h1, h2, h3]
    · simp [h1, h2]

variable {V} {p0 p1} {k : ℕ}

/-- The distances after one more round, from what is carried. -/
abbrev distNext (p0 : FVec Ideal S8x2048x3 .f32) (p1 : IVec S8 32) (k : ℕ) : FVec Ideal S8x2048 .f32 :=
  fun i => (rounds (cloud p0 (i 0)) (size p1 (i 0)) (k + 1)).1 (i 1)

/-- The condition's operations leave what is carried. -/
theorem Carried.cond (h : Carried p0 p1 k V) : Carried p0 p1 k (after condOps V) where
  points := (leaves V condOps_writes (by decide)).trans h.points
  far := (leaves V condOps_writes (by decide)).trans h.far
  mask := (leaves V condOps_writes (by decide)).trans h.mask
  count := (leaves V condOps_writes (by decide)).trans h.count
  dist := (leaves V condOps_writes (by decide)).trans h.dist
  last := (leaves V condOps_writes (by decide)).trans h.last
  taken := (leaves V condOps_writes (by decide)).trans h.taken

/-- The distances after one more round. -/
theorem dist_next (h : Carried p0 p1 k V) : after while0Ops0 V (Proc.devRef .tc main_while0b_v113) = distNext p0 p1 k := by
  rw [first_dist, h.points, h.far, h.mask, h.dist, h.last]
  funext i
  obtain ⟨b, n, rfl⟩ : ∃ b n, i = ix2 b n := ⟨i 0, i 1, by rw [ix2_eta]⟩
  have ho : ∀ a, offsets p0 (fun i => BitVec.ofNat 32 (rounds (cloud p0 (i 0)) (size p1 (i 0)) k).2.val : S8.Idx → BitVec 32) (ix3 b n a)
      = cloud p0 b n a - cloud p0 b (rounds (cloud p0 b) (size p1 b) k).2 a := fun a => by
    unfold offsets column
    pointwise
    rw [look_point]
    pointwise
    rw [wrapped (by decide), place_word (by decide) (by decide)]
    rfl
  unfold shrunk
  pointwise
  simp only [ho, Fin.sum_univ_three, EReal.neg_top]
  rfl

/-- The farthest points are the points sampled in one more round. -/
theorem last_next : farthest (distNext p0 p1 k)
    = (fun i => BitVec.ofNat 32 (rounds (cloud p0 (i 0)) (size p1 (i 0)) (k + 1)).2.val : S8.Idx → BitVec 32) := by
  funext i
  obtain ⟨b, rfl⟩ : ∃ b, i = ix1 b := ⟨i 0, by rw [ix1_eta]⟩
  have hf : (firstMax fun n => distNext p0 p1 k (ix2 b n)) = (rounds (cloud p0 b) (size p1 b) (k + 1)).2 := rfl
  show farthest (distNext p0 p1 k) (ix1 b) = BitVec.ofNat 32 (rounds (cloud p0 b) (size p1 b) (k + 1)).2.val
  rw [← hf]
  unfold farthest
  refine argReduce_max (by decide) _ reducer_eq _ _ _ _ _ _ _ ?_ ?_ (fun n => ix2 b n) ?_ ?_ ?_
  · exact bot_bits
  · rfl
  · exact fun i => Shape.ReducesTo.fiber_r2_a1 _ _ _
  · intro n n'
    rw [Fin.lt_def, Shape.rowMajor_val_two, Shape.rowMajor_val_two]
    show b.val * 2048 + n.val < b.val * 2048 + n'.val ↔ n < n'
    rw [Fin.lt_def]
    omega
  · intro n
    rfl

/-- One trip of the loop is one round. -/
theorem carried_step (hk : k < 127) (h : Carried p0 p1 k V) : Carried p0 p1 (k + 1) (trip V) where
  points := (trip_leaves V (by decide) (by decide) (by decide) (by decide)).trans h.points
  far := (trip_leaves V (by decide) (by decide) (by decide) (by decide)).trans h.far
  mask := (trip_leaves V (by decide) (by decide) (by decide) (by decide)).trans h.mask
  count := by
    simp only [trip, afterL_cons, afterL_nil]
    rw [(third_moves _).1, leaves _ while0Ops0_1_writes (by decide), first_count, h.cond.count]
    funext i
    show BitVec.ofNat 32 (1 + k) + 1#32 = BitVec.ofNat 32 (1 + (k + 1))
    exact (BitVec.ofNat_add (n := 32) (1 + k) 1).symm
  dist := by
    simp only [trip, afterL_cons, afterL_nil]
    rw [(third_moves _).2.1, leaves _ while0Ops0_1_writes (by decide), dist_next h.cond]
  last := by
    simp only [trip, afterL_cons, afterL_nil]
    rw [(third_moves _).2.2, second_next, dist_next h.cond, last_next]
  taken := by
    simp only [trip, afterL_cons, afterL_nil]
    rw [third_taken, second_next, dist_next h.cond, last_next, leaves _ while0Ops0_1_writes (by decide), leaves _ while0Ops0_1_writes (by decide),
      leaves _ while0Ops0_writes (by decide), leaves _ while0Ops0_writes (by decide), h.cond.count, h.cond.taken]
    funext i
    obtain ⟨b, g, rfl⟩ : ∃ b g, i = ix2 b g := ⟨i 0, i 1, by rw [ix2_eta]⟩
    unfold noted column
    simp only [id_eq]
    pointwise
    have hg := g.isLt
    rw [select_word (by omega) (by omega)]
    by_cases h1 : g.val = 1 + k
    · rw [if_pos h1, if_pos (by omega), h1, Nat.add_comm 1 k]
      rfl
    · rw [if_neg h1]
      by_cases h2 : g.val ≤ k
      · rw [if_pos h2, if_pos (by omega)]
      · rw [if_neg h2, if_neg (by omega)]

variable (m : (ℓ : Loc nD τ sig) → Buf (Elt Ideal) ℓ) (c : Dev nD)

/-- The contents when the loop is entered. -/
theorem carried_entry : Carried (m ((c.tc : Thread nD τ).loc main_arg0)) (m ((c.tc : Thread nD τ).loc main_arg1)) 0 (entryContents preI m c) where
  points := by
    simp only [entryContents, afterL_cons, afterL_nil]
    after_reads_simp
    rfl
  far := by
    simp only [entryContents, afterL_cons, afterL_nil]
    after_reads_simp
    funext i
    exact top_bits
  mask := by
    simp only [entryContents, afterL_cons, afterL_nil]
    after_reads_simp
    funext i
    obtain ⟨b, n, rfl⟩ : ∃ b n, i = ix2 b n := ⟨i 0, i 1, by rw [ix2_eta]⟩
    simp only [id_eq]
    pointwise
    rfl
  count := by
    simp only [entryContents, afterL_cons, afterL_nil]
    after_reads_simp
    rfl
  dist := by
    simp only [entryContents, afterL_cons, afterL_nil]
    after_reads_simp
    funext i
    obtain ⟨b, n, rfl⟩ : ∃ b n, i = ix2 b n := ⟨i 0, i 1, by rw [ix2_eta]⟩
    simp only [id_eq]
    pointwise
    rw [top_bits, EReal.neg_top]
    rfl
  last := by
    simp only [entryContents, afterL_cons, afterL_nil]
    after_reads_simp
    rfl
  taken := by
    simp only [entryContents, afterL_cons, afterL_nil]
    after_reads_simp
    funext i
    obtain ⟨b, g, rfl⟩ : ∃ b g, i = ix2 b g := ⟨i 0, i 1, by rw [ix2_eta]⟩
    simp only [id_eq]
    pointwise
    by_cases h : g.val ≤ 0
    · rw [if_pos h, Nat.le_zero.1 h]
      rfl
    · rw [if_neg h]

/-- The contents when the loop is left. -/
abbrev left (m : (ℓ : Loc nD τ sig) → Buf (Elt Ideal) ℓ) (c : Dev nD) : Valuation τ sig (Elt Ideal) := after condOps (atK m 127 c)

/-- All trips are the rounds so far. -/
theorem carried_all : ∀ k ≤ 127, Carried (m ((c.tc : Thread nD τ).loc main_arg0)) (m ((c.tc : Thread nD τ).loc main_arg1)) k (atK m k c)
  | 0, _ => carried_entry m c
  | k + 1, hk => carried_step (by omega) (carried_all k (by omega))

/-- What no operation of the loop writes, the loop leaves. -/
theorem kept (r : Ref sig .tc) (h0 : r ∉ condOps_W) (h1 : r ∉ while0Ops0_W) (h2 : r ∉ while0Ops0_1_W) (h3 : r ∉ while0Ops0_2_W) (k : ℕ) :
    after condOps (atK m k c) (Proc.devRef .tc r) = entryContents preI m c (Proc.devRef .tc r) := by
  rw [leaves _ condOps_writes h0]
  induction k with
  | zero => rfl
  | succ k ih => exact (trip_leaves (atK m k c) h0 h1 h2 h3).trans ih

/-- The positions sampled, when the loop is left. -/
theorem left_taken (b : Fin 8) (g : Fin 128) : left m c (Proc.devRef .tc main_v11_6) (ix2 b g)
    = BitVec.ofNat 32 (sampled (cloud (m ((c.tc : Thread nD τ).loc main_arg0)) b) (size (m ((c.tc : Thread nD τ).loc main_arg1)) b) g.val).val := by
  rw [left, (carried_all m c 127 le_rfl).cond.taken]
  exact if_pos (Nat.le_of_lt_succ g.isLt)

end Cert.Proof.ReferenceLoop
-- ==== Proof.ReferenceValue.lean ====
module

public import proofs.«01_k».proof.Proof.ReferenceLoop
public import proofs.«01_k».proof.Proof.TokenSpec

@[expose] public section
noncomputable section
namespace Cert.Proof.ReferenceValue
open Idealize.ShloMosaic Idealize.ShloMosaic.TcCoe Idealize.ShloMosaic.Tactic
open Cert.ReferenceIdeal Cert.ReferenceIdeal.Gen Cert.ReferenceIdeal.Value
open Idealize.ShloMosaic.StableHlo
open Cert.Proof.Select hiding left
open Cert.Proof.Sampling Cert.Proof.ReferenceReads Cert.Proof.ReferenceLoop Cert.Proof.ReferenceTail

/-! ## The reference's stages, entry by entry -/

variable (p0 : FVec Ideal S8x2048x3 .f32) (p1 : IVec S8 32)

/-- The `g`-th sampled point of cloud `b`. -/
def centre (b : Fin 8) (g : ℕ) : Fin 3 → EReal := cloud p0 b (sampled (cloud p0 b) (size p1 b) g)

/-- The distances to it. -/
def far (b : Fin 8) (g : ℕ) : Fin 2048 → EReal := around (cloud p0 b) (size p1 b) (centre p0 p1 b g)

variable {p0 p1}

/-- The centres are the sampled points. -/
theorem centres_at {v6 : IVec S8x128 32}
    (h6 : ∀ b g, v6 (ix2 b g) = BitVec.ofNat 32 (sampled (cloud p0 b) (size p1 b) g.val).val) (b : Fin 8) (g : Fin 128) (a : Fin 3) :
    centres v6 p0 (ix3 b g a) = centre p0 p1 b g.val a := by
  unfold centres
  rw [look_points]
  pointwise
  rw [h6, wrapped (by decide), place_word (by decide) (by decide)]
  rfl

/-- The distances from the centres, infinite outside the cloud. -/
theorem distances_at {v18 : FVec Ideal S8x128x3 .f32} (h18 : ∀ b g a, v18 (ix3 b g a) = centre p0 p1 b g.val a)
    {v5 : IVec S8x2048 1} (h5 : ∀ b n, v5 (ix2 b n) = valid (size p1 b) n) (b : Fin 8) (g : Fin 128) (n : Fin 2048) :
    distances p0 v18 v5 (ix3 b g n) = far p0 p1 b g.val n := by
  unfold distances
  pointwise
  simp only [h18, h5, Fin.sum_univ_three, top_bits]
  rfl

/-- Among negated values the greater is the less. -/
theorem ordered_iff (x y : EReal) : ((Ideal.cmp .ogt (-x) (-y) == 1#1) = true) ↔ x < y := by
  rw [Ideal.cmp_ogt]
  by_cases h : x < y <;> simp [h]

/-- The positions of the greatest along the last axis are those of the stable sort. -/
theorem topK_at (x : FVec Ideal S8x128x2048 .f32) (b : Fin 8) (g : Fin 128) (r : Fin 32) :
    (Host.topK S8x128x32 2 (FloatOps.cmpfTotal .gt) x sliceFits_S8x128x2048_S8x128x32).2 (ix3 b g r)
      = BitVec.ofNat 32 (sortedFrom (fun k k' : Fin 2048 => Ideal.cmp .ogt (x (ix3 b g k)) (x (ix3 b g k')) == 1#1) ⟨r.val, by omega⟩).val := by
  have hal : ∀ k : Fin 2048, Shape.Idx.along (s := S8x128x2048) (ix3 b g ⟨r.val, by omega⟩) (2 : Fin 3) k = ix3 b g k := fun k => by
    rw [eq_ix3 (Shape.Idx.along (s := S8x128x2048) (ix3 b g ⟨r.val, by omega⟩) (2 : Fin 3) k)]
    rfl
  unfold Host.topK
  pointwise
  refine (congrArg (fun i : Fin 2048 => BitVec.ofNat 32 i.val) (congrFun (hal _) 2)).trans ?_
  refine congrArg (fun B => BitVec.ofNat 32 (sortedFrom B (⟨r.val, by omega⟩ : Fin 2048)).val) ?_
  funext k k'
  rw [← hal k, ← hal k']
  rfl

/-- The positions that the sort puts first are those of the repeated least elements. -/
theorem nearest_at {v29 : FVec Ideal S8x128x2048 .f32} (h29 : ∀ b g n, v29 (ix3 b g n) = far p0 p1 b g.val n)
    (hc : ∀ b g, 32 ≤ (Finset.univ.filter fun n => far p0 p1 b g n < ⊤).card) (b : Fin 8) (g : Fin 128) (r : Fin 32) :
    nearest v29 (ix3 b g r) = BitVec.ofNat 32 (pick (far p0 p1 b g.val) r.val).val := by
  have hr := r.isLt
  have h1 := (sorted_eq_pick (far p0 p1 b g.val) (fun k k' => Ideal.cmp .ogt (-far p0 p1 b g.val k) (-far p0 p1 b g.val k') == 1#1)
    (fun k k' => ordered_iff _ _) (⟨r.val, by omega⟩ : Fin 2048) (lt_of_lt_of_le hr (hc b g.val))).1
  have hd : ∀ k : Fin 2048, Host.negf v29 (ix3 b g k) = -far p0 p1 b g.val k := fun k => by
    pointwise
    rw [h29]
  unfold nearest
  rw [topK_at]
  simp only [hd]
  rw [h1]

/-- The groups are the nearest points relative to their centres. -/
theorem groups_at {v18 : FVec Ideal S8x128x3 .f32} (h18 : ∀ b g a, v18 (ix3 b g a) = centre p0 p1 b g.val a)
    {idx : IVec S8x128x32 32} (hi : ∀ b g r, idx (ix3 b g r) = BitVec.ofNat 32 (pick (far p0 p1 b g.val) r.val).val)
    (b : Fin 8) (g : Fin 128) (r : Fin 32) (a : Fin 3) :
    groups idx p0 v18 (ix4 b g r a) = member (cloud p0 b) (size p1 b) g.val r.val a := by
  unfold groups
  pointwise
  rw [look_groups]
  pointwise
  rw [hi, h18, wrapped (by decide), place_word (by decide) (by decide)]
  rfl

/-- Every member of a group is a valid point. -/
theorem admitted_at {idx : IVec S8x128x32 32} (hi : ∀ b g r, idx (ix3 b g r) = BitVec.ofNat 32 (pick (far p0 p1 b g.val) r.val).val)
    (ht : ∀ b g (r : Fin 32), far p0 p1 b g (pick (far p0 p1 b g) r.val) < ⊤)
    {v5 : IVec S8x2048 1} (h5 : ∀ b n, v5 (ix2 b n) = valid (size p1 b) n) (b : Fin 8) (g : Fin 128) (r : Fin 32) :
    admitted idx v5 (ix3 b g r) = 1#1 := by
  unfold admitted
  rw [look_masks]
  pointwise
  rw [hi, wrapped (by decide), place_word (by decide) (by decide), h5]
  have h := ht b g.val r
  by_contra hn
  unfold far around at h hn
  rw [Scalar.select, if_neg (show ¬ _ = (1 : BitVec 1) from hn)] at h
  exact absurd h (lt_irrefl _)

/-- The place of visible group `u` of cloud `b` among the sampled points. -/
def visible (b : Fin 8) (u : Fin 52) : Fin 128 := place 128 (by decide) (lit0 (S8x52.rowMajor (ix2 b u)))

/-- The table's words name places among the sampled points. -/
theorem lit_word (b : Fin 8) (u : Fin 52) : lit0 (S8x52.rowMajor (ix2 b u)) = BitVec.ofNat 32 (visible b u).val := by
  have : ∀ i, lit0 i = BitVec.ofNat 32 (place 128 (by decide) (lit0 i)).val := by decide +kernel
  exact this _

variable (p0 p1) in
/-- The group that row `t` of the flattened visible groups holds. -/
def taken (t : Fin 416) : Fin 32 → Fin 3 → EReal := fun r a =>
  member (cloud p0 ⟨t.val / 52, by omega⟩) (size p1 ⟨t.val / 52, by omega⟩) (visible ⟨t.val / 52, by omega⟩ ⟨t.val % 52, by omega⟩).val r.val a

/-- The flattened visible groups. -/
theorem flatGroups_at {vc : IVec S8x52 32} (hc : ∀ b u, vc (ix2 b u) = BitVec.ofNat 32 (visible b u).val)
    {v40 : FVec Ideal S8x128x32x3 .f32} (h40 : ∀ b g r a, v40 (ix4 b g r a) = member (cloud p0 b) (size p1 b) g.val r.val a)
    (t : Fin 416) (r : Fin 32) (a : Fin 3) :
    flatGroups vc v40 (ix3 t r a) = taken p0 p1 t r a := by
  unfold flatGroups
  pointwise
  rw [look_visible]
  pointwise
  rw [hc, wrapped (by decide), place_word (by decide) (by decide), h40]
  rfl

/-- The flattened masks admit every member. -/
theorem flatMask_at {vc : IVec S8x52 32} (hc : ∀ b u, vc (ix2 b u) = BitVec.ofNat 32 (visible b u).val)
    {v47 : IVec S8x128x32 1} (h47 : ∀ b g r, v47 (ix3 b g r) = 1#1) (t : Fin 416) (r : Fin 32) :
    flatMask vc v47 (ix2 t r) = 1#1 := by
  unfold flatMask
  pointwise
  rw [look_visible_masks, h47]

/-- The token network of the reference is that of TokenSpec. -/
theorem answer_at {v63 : IVec S416x32 1} (h63 : ∀ t r, v63 (ix2 t r) = 1#1)
    {v55 : FVec Ideal S416x32x3 .f32} (h55 : ∀ t r a, v55 (ix3 t r a) = taken p0 p1 t r a) (p2 : FVec Ideal S3x128 .f32) (p3 : FVec Ideal S128 .f32)
    (p4 : FVec Ideal S128x256 .f32) (p5 : FVec Ideal S256 .f32) (p6 : FVec Ideal S512x512 .f32) (p7 : FVec Ideal S512 .f32)
    (p8 : FVec Ideal S512x384 .f32) (p9 : FVec Ideal S384 .f32) (b : Fin 8) (u : Fin 52) (j : Fin 384) :
    answer v63 (rows (joined (summary v63 (features v55 p2 p3 p4 p5)) (features v55 p2 p3 p4 p5)) p6 p7 p8 p9) (ix3 b u j)
      = TokenSpec.token (fun i j => p2 (ix2 i j)) (fun j => p3 (ix1 j)) (fun i j => p4 (ix2 i j)) (fun j => p5 (ix1 j))
          (fun i j => p6 (ix2 i j)) (fun j => p7 (ix1 j)) (fun i j => p8 (ix2 i j)) (fun j => p9 (ix1 j))
          (fun r a => member (cloud p0 b) (size p1 b) (visible b u).val r.val a) j := by
  have ht : (fun r a => member (cloud p0 b) (size p1 b) (visible b u).val r.val a) = taken p0 p1 ⟨b.val * 52 + u.val, by omega⟩ := by
    unfold taken
    have h1 : (⟨(b.val * 52 + u.val) / 52, by omega⟩ : Fin 8) = b := Fin.ext (by simp only; omega)
    have h2 : (⟨(b.val * 52 + u.val) % 52, by omega⟩ : Fin 52) = u := Fin.ext (by simp only; omega)
    rw [h1, h2]
  rw [ht]
  unfold answer rows joined summary features
  pointwise
  simp only [h63, h55, select_word, if_true]
  simp only [Scalar.select]
  unfold TokenSpec.token TokenSpec.top TokenSpec.joined TokenSpec.feature TokenSpec.hidden
  rfl

/-! ## Enough points to choose from -/

/-- Valid points are at a finite distance from every centre. -/
theorem far_finite (hf : ∀ i, p0 i ≠ ⊤ ∧ p0 i ≠ ⊥) (b : Fin 8) (g : ℕ) (n : Fin 2048) (hn : valid (size p1 b) n = 1#1) :
    far p0 p1 b g n < ⊤ := by
  have hx : ∀ n a, ∃ r : ℝ, cloud p0 b n a = r := fun n a =>
    ⟨(cloud p0 b n a).toReal, (EReal.coe_toReal (hf _).1 (hf _).2).symm⟩
  unfold far around
  rw [Scalar.select, if_pos (show _ = (1 : BitVec 1) from hn)]
  unfold centre apart
  obtain ⟨a0, h0⟩ := hx n 0
  obtain ⟨a1, h1⟩ := hx n 1
  obtain ⟨a2, h2⟩ := hx n 2
  obtain ⟨c0, k0⟩ := hx (sampled (cloud p0 b) (size p1 b) g) 0
  obtain ⟨c1, k1⟩ := hx (sampled (cloud p0 b) (size p1 b) g) 1
  obtain ⟨c2, k2⟩ := hx (sampled (cloud p0 b) (size p1 b) g) 2
  rw [h0, h1, h2, k0, k1, k2]
  norm_cast
  exact EReal.coe_lt_top _

/-- Every centre has at least 32 points at a finite distance. -/
theorem enough (hf : ∀ i, p0 i ≠ ⊤ ∧ p0 i ≠ ⊥) (hl : ∀ b, 512 ≤ (size p1 b).toInt) (b : Fin 8) (g : ℕ) :
    32 ≤ (Finset.univ.filter fun n => far p0 p1 b g n < ⊤).card := by
  have : (Finset.univ.map (Fin.castLEEmb (show 32 ≤ 2048 by decide))).card ≤ (Finset.univ.filter fun n => far p0 p1 b g n < ⊤).card := by
    refine Finset.card_le_card fun n hn => ?_
    obtain ⟨k, -, rfl⟩ := Finset.mem_map.1 hn
    refine Finset.mem_filter.2 ⟨Finset.mem_univ _, far_finite hf b g _ ?_⟩
    unfold valid
    have hk := k.isLt
    have h := hl b
    show BitVec.ofBool (decide ((BitVec.ofNat 32 k.val).toInt < (size p1 b).toInt)) = 1#1
    have e : (BitVec.ofNat 32 k.val).toInt = k.val := by
      have hn : (BitVec.ofNat 32 k.val).toNat = k.val := by
        rw [BitVec.toNat_ofNat]
        omega
      rw [BitVec.toInt_eq_toNat_cond, hn, if_pos (by omega)]
    rw [e, decide_eq_true (by omega)]
    rfl
  simpa using this

/-! ## The contents before the tail, and the result -/

variable (m : (ℓ : Loc nD τ sig) → Buf (Elt Ideal) ℓ) (c : Dev nD)

/-- The loop and the operations before it leave an argument as it was launched. -/
theorem left_arg (r : Ref sig .tc) (hr : r ∉ condOps_W ∧ r ∉ while0Ops0_W ∧ r ∉ while0Ops0_1_W ∧ r ∉ while0Ops0_2_W ∧ r ∉ hostOps0_W) :
    left m c (Proc.devRef .tc r) = m ((c.tc : Thread nD τ).loc r) := by
  rw [left, kept m c r hr.1 hr.2.1 hr.2.2.1 hr.2.2.2.1 127]
  simp only [entryContents, afterL_cons, afterL_nil]
  exact leaves _ hostOps0_writes hr.2.2.2.2

/-- The mask of valid points, when the loop is left. -/
theorem left_mask (b : Fin 8) (n : Fin 2048) :
    left m c (Proc.devRef .tc main_v5) (ix2 b n) = valid (size (m ((c.tc : Thread nD τ).loc main_arg1)) b) n := by
  rw [left, kept m c main_v5 (by decide) (by decide) (by decide) (by decide) 127]
  exact congrFun (carried_entry m c).mask (ix2 b n)

/-- The table of visible groups, when the loop is left. -/
theorem left_visible (b : Fin 8) (u : Fin 52) : left m c (Proc.devRef .tc main_c) (ix2 b u) = BitVec.ofNat 32 (visible b u).val := by
  rw [left, kept m c main_c (by decide) (by decide) (by decide) (by decide) 127]
  simp only [entryContents, afterL_cons, afterL_nil]
  after_reads_simp
  exact lit_word b u

/-- What the reference leaves in its result: the tokens of the visible groups. -/
theorem result (hf : ∀ i, m ((c.tc : Thread nD τ).loc main_arg0) i ≠ (⊤ : EReal) ∧ m ((c.tc : Thread nD τ).loc main_arg0) i ≠ (⊥ : EReal))
    (hl : ∀ b, 512 ≤ (size (m ((c.tc : Thread nD τ).loc main_arg1)) b).toInt) (b : Fin 8) (u : Fin 52) (j : Fin 384) :
    afterL postI (left m c) (Proc.devRef .tc main_v97) (ix3 b u j)
      = TokenSpec.token (fun i j => m ((c.tc : Thread nD τ).loc main_arg2) (ix2 i j)) (fun j => m ((c.tc : Thread nD τ).loc main_arg3) (ix1 j))
          (fun i j => m ((c.tc : Thread nD τ).loc main_arg4) (ix2 i j)) (fun j => m ((c.tc : Thread nD τ).loc main_arg5) (ix1 j))
          (fun i j => m ((c.tc : Thread nD τ).loc main_arg6) (ix2 i j)) (fun j => m ((c.tc : Thread nD τ).loc main_arg7) (ix1 j))
          (fun i j => m ((c.tc : Thread nD τ).loc main_arg8) (ix2 i j)) (fun j => m ((c.tc : Thread nD τ).loc main_arg9) (ix1 j))
          (fun r a => member (cloud (m ((c.tc : Thread nD τ).loc main_arg0)) b) (size (m ((c.tc : Thread nD τ).loc main_arg1)) b) (visible b u).val r.val a) j := by
  have hn := enough hf hl
  have k0 := left_arg m c main_arg0 (by decide)
  have hcen : ∀ b g a, centresAt (left m c) (ix3 b g a) = centre (m ((c.tc : Thread nD τ).loc main_arg0)) (m ((c.tc : Thread nD τ).loc main_arg1)) b g.val a := fun b g a => by
    unfold centresAt
    rw [k0]
    exact centres_at (left_taken m c) b g a
  have hnear : ∀ b g r, nearestAt (left m c) (ix3 b g r)
      = BitVec.ofNat 32 (pick (far (m ((c.tc : Thread nD τ).loc main_arg0)) (m ((c.tc : Thread nD τ).loc main_arg1)) b g.val) r.val).val := fun b g r => by
    unfold nearestAt distancesAt
    refine nearest_at (fun b g n => ?_) hn b g r
    rw [k0]
    exact distances_at hcen (left_mask m c) b g n
  have hpick : ∀ b g (r : Fin 32), far (m ((c.tc : Thread nD τ).loc main_arg0)) (m ((c.tc : Thread nD τ).loc main_arg1)) b g
      (pick (far (m ((c.tc : Thread nD τ).loc main_arg0)) (m ((c.tc : Thread nD τ).loc main_arg1)) b g) r.val) < ⊤ := fun b g r => by
    have hr := r.isLt
    exact (sorted_eq_pick _ (fun k k' => Ideal.cmp .ogt (-far (m ((c.tc : Thread nD τ).loc main_arg0)) (m ((c.tc : Thread nD τ).loc main_arg1)) b g k)
      (-far (m ((c.tc : Thread nD τ).loc main_arg0)) (m ((c.tc : Thread nD τ).loc main_arg1)) b g k') == 1#1)
      (fun k k' => ordered_iff _ _) (⟨r.val, by omega⟩ : Fin 2048) (lt_of_lt_of_le hr (hn b g))).2
  rw [tail_eq]
  unfold answerAt rowsAt joinedAt summaryAt featuresAt
  rw [left_arg m c main_arg2 (by decide), left_arg m c main_arg3 (by decide), left_arg m c main_arg4 (by decide), left_arg m c main_arg5 (by decide),
    left_arg m c main_arg6 (by decide), left_arg m c main_arg7 (by decide), left_arg m c main_arg8 (by decide), left_arg m c main_arg9 (by decide)]
  refine answer_at (fun t r => ?_) (fun t r a => ?_) _ _ _ _ _ _ _ _ b u j
  · exact flatMask_at (left_visible m c) (fun b g r => admitted_at hnear hpick (left_mask m c) b g r) t r
  · refine flatGroups_at (left_visible m c) (fun b g r a => ?_) t r a
    unfold groupsAt
    rw [k0]
    exact groups_at hcen hnear b g r a

/-- The tail leaves an argument as it was launched. -/
theorem result_arg (r : Ref sig .tc) (hr : r ∉ condOps_W ∧ r ∉ while0Ops0_W ∧ r ∉ while0Ops0_1_W ∧ r ∉ while0Ops0_2_W ∧ r ∉ hostOps0_W)
    (ht : r ∉ [win0_W, win1_W, win2_W, win3a_W, win3b_W, win4_W, win5_W, win6_W, win7_W, win8_W, win9_W, win10a_W, win10b_W, win11_W].flatten) :
    afterL postI (left m c) (Proc.devRef .tc r) = m ((c.tc : Thread nD τ).loc r) := by
  simp only [List.flatten_cons, List.flatten_nil, List.append_nil, List.mem_append, not_or] at ht
  obtain ⟨t0, t1, t2, t3a, t3b, t4, t5, t6, t7, t8, t9, t10a, t10b, t11⟩ := ht
  simp only [afterL_cons, afterL_nil]
  rw [leaves _ win11_writes t11, leaves _ win10b_writes t10b, leaves _ win10a_writes t10a, leaves _ win9_writes t9, leaves _ win8_writes t8, leaves _ win7_writes t7, leaves _ win6_writes t6, leaves _ win5_writes t5, leaves _ win4_writes t4, leaves _ win3b_writes t3b, leaves _ win3a_writes t3a, leaves _ win2_writes t2, leaves _ win1_writes t1, leaves _ win0_writes t0,
    left_arg m c r hr]

end Cert.Proof.ReferenceValue
-- ==== Proof.Meaning.lean ====
/-
  What the precondition says of the points and the lengths, and that kernel and reference name the same visible groups.
-/
module

public import proofs.«01_k».proof.Defs
public import proofs.«01_k».proof.Proof.KernelValue
public import proofs.«01_k».proof.Proof.ReferenceValue
public import proofs.«01_k».proof.Proof.Gen.Pre_general_position
public import Idealize.ShloMosaic.Lib.ReduceAll

@[expose] public section
set_option maxRecDepth 16384
noncomputable section
namespace Cert.Proof.Meaning
open Idealize.ShloMosaic Idealize.ShloMosaic.TcCoe Idealize.ShloMosaic.Tactic
open Cert.Proof.Sampling (top_bits)

/-- The kernel's word for a visible group names the place the reference reads. -/
theorem word_eq_visible (b : Fin 8) (u : Fin 52) :
    KernelValue.word b u = BitVec.ofNat 32 (ReferenceValue.visible b u).val := by
  have h : ∀ (b : Fin 8) (u : Fin 52), KernelIdeal.lit0 (KernelIdeal.S8x128.rowMajor (ix2 b ⟨76 + u.val, by omega⟩))
      = ReferenceIdeal.lit0 (ReferenceIdeal.S8x52.rowMajor (ix2 b u)) := by decide +kernel
  exact (h b u).trans (ReferenceValue.lit_word b u)

section
variable [Cert.Pre_general_position.Facts]
  (a0 : FVec Ideal Pre_general_position.S8x2048x3 .f32) (a1 : IVec Pre_general_position.S8 32)
  (a2 : FVec Ideal Pre_general_position.S3x128 .f32) (a3 : FVec Ideal Pre_general_position.S128 .f32)
  (a4 : FVec Ideal Pre_general_position.S128x256 .f32) (a5 : FVec Ideal Pre_general_position.S256 .f32)
  (a6 : FVec Ideal Pre_general_position.S512x512 .f32) (a7 : FVec Ideal Pre_general_position.S512 .f32)
  (a8 : FVec Ideal Pre_general_position.S512x384 .f32) (a9 : FVec Ideal Pre_general_position.S384 .f32)

/-- A conjunction of bits is set only if both are. -/
theorem both {x y : BitVec 1} (h : IntOp.andi x y = 1#1) : x = 1#1 ∧ y = 1#1 := by
  revert x y
  decide

/-- Under the precondition the coordinates are finite. -/
theorem finite (h : Pre_general_position.fn (F := Ideal) a0 a1 a2 a3 a4 a5 a6 a7 a8 a9 = fun _ => 1#1) (i : Pre_general_position.S8x2048x3.Idx) :
    a0 i ≠ (⊤ : EReal) ∧ a0 i ≠ (⊥ : EReal) := by
  have h0 := (both (both (congrFun h (fun i => i.elim0))).1).1
  have h1 := Host.reduce_andi_all _ _ _ _ _ h0 i
  obtain ⟨b, n, a, rfl⟩ : ∃ b n a, i = ix3 b n a := ⟨i 0, i 1, i 2, by rw [ix3_eta]⟩
  pointwise at h1
  rw [top_bits, Ideal.absf_def] at h1
  have h2 : max (a0 (ix3 b n a) : EReal) (-a0 (ix3 b n a)) < ⊤ := by
    by_contra hn
    rw [decide_eq_false hn] at h1
    exact absurd h1 (by decide)
  refine ⟨fun e => ?_, fun e => ?_⟩ <;> rw [e] at h2 <;> simp at h2

/-- Under the precondition every cloud has at least 512 points. -/
theorem long (h : Pre_general_position.fn (F := Ideal) a0 a1 a2 a3 a4 a5 a6 a7 a8 a9 = fun _ => 1#1) (b : Fin 8) :
    512 ≤ (a1 (ix1 b)).toInt := by
  have h0 := (both (both (both (congrFun h (fun i => i.elim0))).1).2).1
  have h1 := Host.reduce_andi_all _ _ _ _ _ h0 (ix1 b)
  pointwise at h1
  have h2 : BitVec.ofBool (decide ((512#32 : BitVec 32).toInt ≤ (a1 (ix1 b)).toInt)) = 1#1 := h1
  by_contra hn
  rw [decide_eq_false (by simpa using hn)] at h2
  exact absurd h2 (by decide)
end

end Cert.Proof.Meaning
-- ==== Proof.lean ====
/-
  The claims: both programs run and leave their arguments alone, and at extended reals the kernel and the reference leave the
  same tokens.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_general_position
public import proofs.«01_k».proof.Proof.Meaning
public import Idealize.ShloMosaic.Adequacy
public import Idealize.ShloMosaic.Init

@[expose] public section

noncomputable section

namespace Cert.Proof

open Idealize.ShloMosaic Idealize.SL.Sem Cert.Kernel

set_option maxRecDepth 16384 in
/-- The reference runs, leaves in its result what its last operations write and its arguments as they were. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => ∀ c : Dev ReferenceIdeal.nD,
        r.2.mem ((c.tc : Thread ReferenceIdeal.nD ReferenceIdeal.τ).loc ReferenceIdeal.main_v97)
            = StableHlo.afterL ReferenceIdeal.Value.postI (ReferenceLoop.left m c) (Proc.devRef .tc ReferenceIdeal.main_v97)
        ∧ r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7)
        ∧ r.2.mem ((c.tc : Thread ReferenceIdeal.nD ReferenceIdeal.τ).loc ReferenceIdeal.main_arg8) = m ((c.tc : Thread ReferenceIdeal.nD ReferenceIdeal.τ).loc ReferenceIdeal.main_arg8)
        ∧ r.2.mem ((c.tc : Thread ReferenceIdeal.nD ReferenceIdeal.τ).loc ReferenceIdeal.main_arg9) = m ((c.tc : Thread ReferenceIdeal.nD ReferenceIdeal.τ).loc ReferenceIdeal.main_arg9)) :=
  (θ_run ReferenceIdeal.defs _ _).mono (fun r h c => ⟨h c ReferenceIdeal.main_v97 rfl,
    (h c ReferenceIdeal.main_arg0 rfl).trans (ReferenceValue.result_arg m c ReferenceIdeal.main_arg0 (by decide) (by decide)),
    (h c ReferenceIdeal.main_arg1 rfl).trans (ReferenceValue.result_arg m c ReferenceIdeal.main_arg1 (by decide) (by decide)),
    (h c ReferenceIdeal.main_arg2 rfl).trans (ReferenceValue.result_arg m c ReferenceIdeal.main_arg2 (by decide) (by decide)),
    (h c ReferenceIdeal.main_arg3 rfl).trans (ReferenceValue.result_arg m c ReferenceIdeal.main_arg3 (by decide) (by decide)),
    (h c ReferenceIdeal.main_arg4 rfl).trans (ReferenceValue.result_arg m c ReferenceIdeal.main_arg4 (by decide) (by decide)),
    (h c ReferenceIdeal.main_arg5 rfl).trans (ReferenceValue.result_arg m c ReferenceIdeal.main_arg5 (by decide) (by decide)),
    (h c ReferenceIdeal.main_arg6 rfl).trans (ReferenceValue.result_arg m c ReferenceIdeal.main_arg6 (by decide) (by decide)),
    (h c ReferenceIdeal.main_arg7 rfl).trans (ReferenceValue.result_arg m c ReferenceIdeal.main_arg7 (by decide) (by decide)),
    (h c ReferenceIdeal.main_arg8 rfl).trans (ReferenceValue.result_arg m c ReferenceIdeal.main_arg8 (by decide) (by decide)),
    (h c ReferenceIdeal.main_arg9 rfl).trans (ReferenceValue.result_arg m c ReferenceIdeal.main_arg9 (by decide) (by decide))⟩)
    (ReferenceIdeal.Value.run_fold m g)

/-- The kernel at extended reals runs, leaves the last boundary's contents in its result and its arguments as they were. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩
      (fun r => ∀ c : Dev KernelIdeal.nD,
        r.2.mem ((c.tc : Thread KernelIdeal.nD KernelIdeal.τ).loc KernelIdeal.main_v14) = KernelIdeal.Gen.W8 m g c (Proc.devRef .tc KernelIdeal.main_v14)
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)
        ∧ r.2.mem ((c.tc : Thread KernelIdeal.nD KernelIdeal.τ).loc KernelIdeal.main_arg5) = m ((c.tc : Thread KernelIdeal.nD KernelIdeal.τ).loc KernelIdeal.main_arg5)
        ∧ r.2.mem ((c.tc : Thread KernelIdeal.nD KernelIdeal.τ).loc KernelIdeal.main_arg6) = m ((c.tc : Thread KernelIdeal.nD KernelIdeal.τ).loc KernelIdeal.main_arg6)
        ∧ r.2.mem ((c.tc : Thread KernelIdeal.nD KernelIdeal.τ).loc KernelIdeal.main_arg7) = m ((c.tc : Thread KernelIdeal.nD KernelIdeal.τ).loc KernelIdeal.main_arg7)
        ∧ r.2.mem ((c.tc : Thread KernelIdeal.nD KernelIdeal.τ).loc KernelIdeal.main_arg8) = m ((c.tc : Thread KernelIdeal.nD KernelIdeal.τ).loc KernelIdeal.main_arg8)
        ∧ r.2.mem ((c.tc : Thread KernelIdeal.nD KernelIdeal.τ).loc KernelIdeal.main_arg9) = m ((c.tc : Thread KernelIdeal.nD KernelIdeal.τ).loc KernelIdeal.main_arg9)) :=
  (θ_run KernelIdeal.defs _ _).mono (fun r h c => ⟨h c KernelIdeal.main_v14 (by decide),
    (h c KernelIdeal.main_arg0 (by decide)).trans (KernelIdeal.Gen.W8_main_arg0 m g c),
    (h c KernelIdeal.main_arg1 (by decide)).trans (KernelIdeal.Gen.W8_main_arg1 m g c),
    (h c KernelIdeal.main_arg2 (by decide)).trans (KernelIdeal.Gen.W8_main_arg2 m g c),
    (h c KernelIdeal.main_arg3 (by decide)).trans (KernelIdeal.Gen.W8_main_arg3 m g c),
    (h c KernelIdeal.main_arg4 (by decide)).trans (KernelIdeal.Gen.W8_main_arg4 m g c),
    (h c KernelIdeal.main_arg5 (by decide)).trans (KernelIdeal.Gen.W8_main_arg5 m g c),
    (h c KernelIdeal.main_arg6 (by decide)).trans (KernelIdeal.Gen.W8_main_arg6 m g c),
    (h c KernelIdeal.main_arg7 (by decide)).trans (KernelIdeal.Gen.W8_main_arg7 m g c),
    (h c KernelIdeal.main_arg8 (by decide)).trans (KernelIdeal.Gen.W8_main_arg8 m g c),
    (h c KernelIdeal.main_arg9 (by decide)).trans (KernelIdeal.Gen.W8_main_arg9 m g c)⟩)
    (KernelIdeal.Gen.run_contents m g)

/-- The reference leaves its arguments as they were; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (reference_run m g)

/-- The same under the precondition, which is not needed. -/
theorem frame_reference_pre : Cert.quiescent_ReferenceIdeal_pre_general_position (hReferenceIdeal := Cert.ReferenceIdeal.Gen.facts)
    (hPre_general_position := Cert.Pre_general_position.Gen.facts) := fun m g _ => frame_reference m g trivial

set_option maxRecDepth 16384 in
/-- From the same arguments kernel and reference leave the same tokens. -/
theorem result_eq (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (c : Dev KernelIdeal.nD)
    (hf : ∀ i, m ((c.tc : Thread KernelIdeal.nD KernelIdeal.τ).loc KernelIdeal.main_arg0) i ≠ (⊤ : EReal)
      ∧ m ((c.tc : Thread KernelIdeal.nD KernelIdeal.τ).loc KernelIdeal.main_arg0) i ≠ (⊥ : EReal))
    (hl : ∀ b, 512 ≤ (KernelValue.size m c b).toInt)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9)) :
    (StableHlo.afterL ReferenceIdeal.Value.postI (ReferenceLoop.left m' c) (Proc.devRef .tc ReferenceIdeal.main_v97) : FVec Ideal ReferenceIdeal.S8x52x384 .f32)
      = KernelIdeal.Gen.W8 m g c (Proc.devRef .tc KernelIdeal.main_v14) := by
  funext i
  obtain ⟨b, u, j, rfl⟩ : ∃ b u j, i = ix3 b u j := ⟨i 0, i 1, i 2, by rw [ix3_eta]⟩
  refine (ReferenceValue.result m' c (by rw [h0]; exact hf) (by rw [h1]; exact hl) b u j).trans ?_
  refine Eq.trans ?_ (KernelValue.result m g c Meaning.word_eq_visible b u j).symm
  rw [h0, h1, h2, h3, h4, h5, h6, h7, h8, h9]
  rfl

set_option maxRecDepth 16384 in
/-- Under the precondition both idealized programs run and leave the same tokens from the same arguments. -/
theorem algebraic : Cert.algebraic_KernelIdeal_ReferenceIdeal (hKernelIdeal := Cert.KernelIdeal.Gen.facts)
    (hReferenceIdeal := Cert.ReferenceIdeal.Gen.facts) (hPre_general_position := Cert.Pre_general_position.Gen.facts) := by
  letI := Cert.Pre_general_position.Gen.facts
  intro m g m' g' hp hargs
  refine ⟨fun c => KernelIdeal.Gen.W8 m g c (Proc.devRef .tc KernelIdeal.main_v14), kernel_run m g, ?_⟩
  refine (θ_run Cert.ReferenceIdeal.defs _ _).mono (fun r h c => ?_) (reference_run m' g')
  refine ⟨(h c).1.trans ?_, (h c).2⟩
  obtain ⟨h0, h1, h2, h3, h4, h5, h6, h7, h8, h9⟩ := hargs c
  exact result_eq m g m' c (fun i => Meaning.finite _ _ _ _ _ _ _ _ _ _ (hp c) i) (fun b => Meaning.long _ _ _ _ _ _ _ _ _ _ (hp c) b)
    h0 h1 h2 h3 h4 h5 h6 h7 h8 h9

/-- The claims. -/
theorem claim : Cert.Claim := ⟨Cert.Kernel.Gen.facts, Cert.KernelIdeal.Gen.facts, Cert.ReferenceIdeal.Gen.facts, Cert.Pre_general_position.Gen.facts,
  fun m g _ => Cert.Kernel.Gen.frame m g, fun m g _ => Cert.Kernel.Gen.frame m g, fun m g _ => Cert.KernelIdeal.Gen.frame m g,
  frame_reference, frame_reference_pre, trivial, algebraic⟩

end Cert.Proof

end
